-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x8192 : Shape := ⟨2, ![4096, 8192]⟩
abbrev S4096x256 : Shape := ⟨2, ![4096, 256]⟩
abbrev S2x4096x1024 : Shape := ⟨3, ![2, 4096, 1024]⟩
abbrev S32x128x256 : Shape := ⟨3, ![32, 128, 256]⟩
abbrev S8x128 : Shape := ⟨2, ![8, 128]⟩
abbrev S32x8x128 : Shape := ⟨3, ![32, 8, 128]⟩
abbrev S2 : Shape := ⟨1, ![2]⟩
abbrev S32 : Shape := ⟨1, ![32]⟩
abbrev S_ : Shape := ⟨0, ![]⟩
abbrev S1 : Shape := ⟨1, ![1]⟩
abbrev S1x4096x1024 : Shape := ⟨3, ![1, 4096, 1024]⟩
abbrev S4096x1024 : Shape := ⟨2, ![4096, 1024]⟩
abbrev S128x1024 : Shape := ⟨2, ![128, 1024]⟩
abbrev S1x128x1024 : Shape := ⟨3, ![1, 128, 1024]⟩
abbrev S1x1x1 : Shape := ⟨3, ![1, 1, 1]⟩
abbrev S128x256 : Shape := ⟨2, ![128, 256]⟩
abbrev S1x128x256 : Shape := ⟨3, ![1, 128, 256]⟩
abbrev S1x8x128 : Shape := ⟨3, ![1, 8, 128]⟩
abbrev S1x32x8x128 : Shape := ⟨4, ![1, 32, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S128x4096, .f32⟩
  | .hbm, ⟨1, _⟩ => ⟨S4096x8192, .f32⟩
  | .hbm, ⟨2, _⟩ => ⟨S4096x256, .f32⟩
  | .local _ .vmem, ⟨0, _⟩ => ⟨S128x4096, .f32⟩
  | .local _ .vmem, ⟨1, _⟩ => ⟨S4096x256, .f32⟩
  | .local _ .vmem, ⟨2, _⟩ => ⟨S2x4096x1024, .f32⟩
  | .local _ .vmem, ⟨3, _⟩ => ⟨S32x128x256, .bf16⟩
  | .local _ .vmem, ⟨4, _⟩ => ⟨S32x128x256, .bf16⟩
  | .local _ .vmem, ⟨5, _⟩ => ⟨S8x128, .f32⟩
  | .local _ .vmem, ⟨6, _⟩ => ⟨S32x8x128, .f32⟩
  | _, _ => ⟨S128x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_152 : BitVec 32 := 0#32
  let v162 : BitVec 1 := Scalar.cmpi .ne v2 c0_i32_152
  let v163 : BitVec 32 := Scalar.extui v162
  let c0_i32_155 : BitVec 32 := 0#32
  let v164 : BitVec 1 := Scalar.cmpi .ne v163 c0_i32_155
  v164

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev32 : Nat :=
  let c0_i32_1597 : BitVec 32 := 0#32
  let c0_i32_1595 : BitVec 32 := 0#32
  let c1_i32_1596 : BitVec 32 := 1#32
  let v1989 : BitVec 32 := Scalar.muli c0_i32_1595 c1_i32_1596
  let v1990 : BitVec 32 := Scalar.addi c0_i32_1597 v1989
  v1990.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_160 : BitVec 32 := 1#32
  let v172 : BitVec 1 := Scalar.cmpi .ne v2 c1_i32_160
  let v173 : BitVec 32 := Scalar.extui v172
  let c0_i32_163 : BitVec 32 := 0#32
  let v174 : BitVec 1 := Scalar.cmpi .ne v173 c0_i32_163
  v174

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev33 : Nat :=
  let c0_i32_1597 : BitVec 32 := 0#32
  let c1_i32_1595 : BitVec 32 := 1#32
  let c1_i32_1596 : BitVec 32 := 1#32
  let v1989 : BitVec 32 := Scalar.muli c1_i32_1595 c1_i32_1596
  let v1990 : BitVec 32 := Scalar.addi c0_i32_1597 v1989
  v1990.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_168 : BitVec 32 := 2#32
  let v182 : BitVec 1 := Scalar.cmpi .ne v2 c2_i32_168
  let v183 : BitVec 32 := Scalar.extui v182
  let c0_i32_171 : BitVec 32 := 0#32
  let v184 : BitVec 1 := Scalar.cmpi .ne v183 c0_i32_171
  v184

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev34 : Nat :=
  let c0_i32_1597 : BitVec 32 := 0#32
  let c2_i32_1595 : BitVec 32 := 2#32
  let c1_i32_1596 : BitVec 32 := 1#32
  let v1989 : BitVec 32 := Scalar.muli c2_i32_1595 c1_i32_1596
  let v1990 : BitVec 32 := Scalar.addi c0_i32_1597 v1989
  v1990.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_176 : BitVec 32 := 3#32
  let v192 : BitVec 1 := Scalar.cmpi .ne v2 c3_i32_176
  let v193 : BitVec 32 := Scalar.extui v192
  let c0_i32_179 : BitVec 32 := 0#32
  let v194 : BitVec 1 := Scalar.cmpi .ne v193 c0_i32_179
  v194

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev35 : Nat :=
  let c0_i32_1597 : BitVec 32 := 0#32
  let c3_i32_1595 : BitVec 32 := 3#32
  let c1_i32_1596 : BitVec 32 := 1#32
  let v1989 : BitVec 32 := Scalar.muli c3_i32_1595 c1_i32_1596
  let v1990 : BitVec 32 := Scalar.addi c0_i32_1597 v1989
  v1990.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_201 : BitVec 32 := 4#32
  let v224 : BitVec 1 := Scalar.cmpi .ne v2 c4_i32_201
  let v225 : BitVec 32 := Scalar.extui v224
  let c0_i32_204 : BitVec 32 := 0#32
  let v226 : BitVec 1 := Scalar.cmpi .ne v225 c0_i32_204
  v226

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev36 : Nat :=
  let c0_i32_1597 : BitVec 32 := 0#32
  let c4_i32_1595 : BitVec 32 := 4#32
  let c1_i32_1596 : BitVec 32 := 1#32
  let v1989 : BitVec 32 := Scalar.muli c4_i32_1595 c1_i32_1596
  let v1990 : BitVec 32 := Scalar.addi c0_i32_1597 v1989
  v1990.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_209 : BitVec 32 := 5#32
  let v234 : BitVec 1 := Scalar.cmpi .ne v2 c5_i32_209
  let v235 : BitVec 32 := Scalar.extui v234
  let c0_i32_212 : BitVec 32 := 0#32
  let v236 : BitVec 1 := Scalar.cmpi .ne v235 c0_i32_212
  v236

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev37 : Nat :=
  let c0_i32_1597 : BitVec 32 := 0#32
  let c5_i32_1595 : BitVec 32 := 5#32
  let c1_i32_1596 : BitVec 32 := 1#32
  let v1989 : BitVec 32 := Scalar.muli c5_i32_1595 c1_i32_1596
  let v1990 : BitVec 32 := Scalar.addi c0_i32_1597 v1989
  v1990.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_217 : BitVec 32 := 6#32
  let v244 : BitVec 1 := Scalar.cmpi .ne v2 c6_i32_217
  let v245 : BitVec 32 := Scalar.extui v244
  let c0_i32_220 : BitVec 32 := 0#32
  let v246 : BitVec 1 := Scalar.cmpi .ne v245 c0_i32_220
  v246

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev38 : Nat :=
  let c0_i32_1597 : BitVec 32 := 0#32
  let c6_i32_1595 : BitVec 32 := 6#32
  let c1_i32_1596 : BitVec 32 := 1#32
  let v1989 : BitVec 32 := Scalar.muli c6_i32_1595 c1_i32_1596
  let v1990 : BitVec 32 := Scalar.addi c0_i32_1597 v1989
  v1990.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_225 : BitVec 32 := 7#32
  let v254 : BitVec 1 := Scalar.cmpi .ne v2 c7_i32_225
  let v255 : BitVec 32 := Scalar.extui v254
  let c0_i32_228 : BitVec 32 := 0#32
  let v256 : BitVec 1 := Scalar.cmpi .ne v255 c0_i32_228
  v256

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev39 : Nat :=
  let c0_i32_1597 : BitVec 32 := 0#32
  let c7_i32_1595 : BitVec 32 := 7#32
  let c1_i32_1596 : BitVec 32 := 1#32
  let v1989 : BitVec 32 := Scalar.muli c7_i32_1595 c1_i32_1596
  let v1990 : BitVec 32 := Scalar.addi c0_i32_1597 v1989
  v1990.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_250 : BitVec 32 := 8#32
  let v286 : BitVec 1 := Scalar.cmpi .ne v2 c8_i32_250
  let v287 : BitVec 32 := Scalar.extui v286
  let c0_i32_253 : BitVec 32 := 0#32
  let v288 : BitVec 1 := Scalar.cmpi .ne v287 c0_i32_253
  v288

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev40 : Nat :=
  let c0_i32_1597 : BitVec 32 := 0#32
  let c8_i32_1595 : BitVec 32 := 8#32
  let c1_i32_1596 : BitVec 32 := 1#32
  let v1989 : BitVec 32 := Scalar.muli c8_i32_1595 c1_i32_1596
  let v1990 : BitVec 32 := Scalar.addi c0_i32_1597 v1989
  v1990.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_258 : BitVec 32 := 9#32
  let v296 : BitVec 1 := Scalar.cmpi .ne v2 c9_i32_258
  let v297 : BitVec 32 := Scalar.extui v296
  let c0_i32_261 : BitVec 32 := 0#32
  let v298 : BitVec 1 := Scalar.cmpi .ne v297 c0_i32_261
  v298

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev41 : Nat :=
  let c0_i32_1597 : BitVec 32 := 0#32
  let c9_i32_1595 : BitVec 32 := 9#32
  let c1_i32_1596 : BitVec 32 := 1#32
  let v1989 : BitVec 32 := Scalar.muli c9_i32_1595 c1_i32_1596
  let v1990 : BitVec 32 := Scalar.addi c0_i32_1597 v1989
  v1990.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_266 : BitVec 32 := 10#32
  let v306 : BitVec 1 := Scalar.cmpi .ne v2 c10_i32_266
  let v307 : BitVec 32 := Scalar.extui v306
  let c0_i32_269 : BitVec 32 := 0#32
  let v308 : BitVec 1 := Scalar.cmpi .ne v307 c0_i32_269
  v308

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev42 : Nat :=
  let c0_i32_1597 : BitVec 32 := 0#32
  let c10_i32_1595 : BitVec 32 := 10#32
  let c1_i32_1596 : BitVec 32 := 1#32
  let v1989 : BitVec 32 := Scalar.muli c10_i32_1595 c1_i32_1596
  let v1990 : BitVec 32 := Scalar.addi c0_i32_1597 v1989
  v1990.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_274 : BitVec 32 := 11#32
  let v316 : BitVec 1 := Scalar.cmpi .ne v2 c11_i32_274
  let v317 : BitVec 32 := Scalar.extui v316
  let c0_i32_277 : BitVec 32 := 0#32
  let v318 : BitVec 1 := Scalar.cmpi .ne v317 c0_i32_277
  v318

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev43 : Nat :=
  let c0_i32_1597 : BitVec 32 := 0#32
  let c11_i32_1595 : BitVec 32 := 11#32
  let c1_i32_1596 : BitVec 32 := 1#32
  let v1989 : BitVec 32 := Scalar.muli c11_i32_1595 c1_i32_1596
  let v1990 : BitVec 32 := Scalar.addi c0_i32_1597 v1989
  v1990.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_299 : BitVec 32 := 12#32
  let v348 : BitVec 1 := Scalar.cmpi .ne v2 c12_i32_299
  let v349 : BitVec 32 := Scalar.extui v348
  let c0_i32_302 : BitVec 32 := 0#32
  let v350 : BitVec 1 := Scalar.cmpi .ne v349 c0_i32_302
  v350

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev44 : Nat :=
  let c0_i32_1597 : BitVec 32 := 0#32
  let c12_i32_1595 : BitVec 32 := 12#32
  let c1_i32_1596 : BitVec 32 := 1#32
  let v1989 : BitVec 32 := Scalar.muli c12_i32_1595 c1_i32_1596
  let v1990 : BitVec 32 := Scalar.addi c0_i32_1597 v1989
  v1990.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_307 : BitVec 32 := 13#32
  let v358 : BitVec 1 := Scalar.cmpi .ne v2 c13_i32_307
  let v359 : BitVec 32 := Scalar.extui v358
  let c0_i32_310 : BitVec 32 := 0#32
  let v360 : BitVec 1 := Scalar.cmpi .ne v359 c0_i32_310
  v360

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev45 : Nat :=
  let c0_i32_1597 : BitVec 32 := 0#32
  let c13_i32_1595 : BitVec 32 := 13#32
  let c1_i32_1596 : BitVec 32 := 1#32
  let v1989 : BitVec 32 := Scalar.muli c13_i32_1595 c1_i32_1596
  let v1990 : BitVec 32 := Scalar.addi c0_i32_1597 v1989
  v1990.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_315 : BitVec 32 := 14#32
  let v368 : BitVec 1 := Scalar.cmpi .ne v2 c14_i32_315
  let v369 : BitVec 32 := Scalar.extui v368
  let c0_i32_318 : BitVec 32 := 0#32
  let v370 : BitVec 1 := Scalar.cmpi .ne v369 c0_i32_318
  v370

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev46 : Nat :=
  let c0_i32_1597 : BitVec 32 := 0#32
  let c14_i32_1595 : BitVec 32 := 14#32
  let c1_i32_1596 : BitVec 32 := 1#32
  let v1989 : BitVec 32 := Scalar.muli c14_i32_1595 c1_i32_1596
  let v1990 : BitVec 32 := Scalar.addi c0_i32_1597 v1989
  v1990.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_323 : BitVec 32 := 15#32
  let v378 : BitVec 1 := Scalar.cmpi .ne v2 c15_i32_323
  let v379 : BitVec 32 := Scalar.extui v378
  let c0_i32_326 : BitVec 32 := 0#32
  let v380 : BitVec 1 := Scalar.cmpi .ne v379 c0_i32_326
  v380

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev47 : Nat :=
  let c0_i32_1597 : BitVec 32 := 0#32
  let c15_i32_1595 : BitVec 32 := 15#32
  let c1_i32_1596 : BitVec 32 := 1#32
  let v1989 : BitVec 32 := Scalar.muli c15_i32_1595 c1_i32_1596
  let v1990 : BitVec 32 := Scalar.addi c0_i32_1597 v1989
  v1990.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_348 : BitVec 32 := 16#32
  let v410 : BitVec 1 := Scalar.cmpi .ne v2 c16_i32_348
  let v411 : BitVec 32 := Scalar.extui v410
  let c0_i32_351 : BitVec 32 := 0#32
  let v412 : BitVec 1 := Scalar.cmpi .ne v411 c0_i32_351
  v412

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev48 : Nat :=
  let c0_i32_1597 : BitVec 32 := 0#32
  let c16_i32_1595 : BitVec 32 := 16#32
  let c1_i32_1596 : BitVec 32 := 1#32
  let v1989 : BitVec 32 := Scalar.muli c16_i32_1595 c1_i32_1596
  let v1990 : BitVec 32 := Scalar.addi c0_i32_1597 v1989
  v1990.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_356 : BitVec 32 := 17#32
  let v420 : BitVec 1 := Scalar.cmpi .ne v2 c17_i32_356
  let v421 : BitVec 32 := Scalar.extui v420
  let c0_i32_359 : BitVec 32 := 0#32
  let v422 : BitVec 1 := Scalar.cmpi .ne v421 c0_i32_359
  v422

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev49 : Nat :=
  let c0_i32_1597 : BitVec 32 := 0#32
  let c17_i32_1595 : BitVec 32 := 17#32
  let c1_i32_1596 : BitVec 32 := 1#32
  let v1989 : BitVec 32 := Scalar.muli c17_i32_1595 c1_i32_1596
  let v1990 : BitVec 32 := Scalar.addi c0_i32_1597 v1989
  v1990.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_364 : BitVec 32 := 18#32
  let v430 : BitVec 1 := Scalar.cmpi .ne v2 c18_i32_364
  let v431 : BitVec 32 := Scalar.extui v430
  let c0_i32_367 : BitVec 32 := 0#32
  let v432 : BitVec 1 := Scalar.cmpi .ne v431 c0_i32_367
  v432

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev50 : Nat :=
  let c0_i32_1597 : BitVec 32 := 0#32
  let c18_i32_1595 : BitVec 32 := 18#32
  let c1_i32_1596 : BitVec 32 := 1#32
  let v1989 : BitVec 32 := Scalar.muli c18_i32_1595 c1_i32_1596
  let v1990 : BitVec 32 := Scalar.addi c0_i32_1597 v1989
  v1990.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_372 : BitVec 32 := 19#32
  let v440 : BitVec 1 := Scalar.cmpi .ne v2 c19_i32_372
  let v441 : BitVec 32 := Scalar.extui v440
  let c0_i32_375 : BitVec 32 := 0#32
  let v442 : BitVec 1 := Scalar.cmpi .ne v441 c0_i32_375
  v442

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev51 : Nat :=
  let c0_i32_1597 : BitVec 32 := 0#32
  let c19_i32_1595 : BitVec 32 := 19#32
  let c1_i32_1596 : BitVec 32 := 1#32
  let v1989 : BitVec 32 := Scalar.muli c19_i32_1595 c1_i32_1596
  let v1990 : BitVec 32 := Scalar.addi c0_i32_1597 v1989
  v1990.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_397 : BitVec 32 := 20#32
  let v472 : BitVec 1 := Scalar.cmpi .ne v2 c20_i32_397
  let v473 : BitVec 32 := Scalar.extui v472
  let c0_i32_400 : BitVec 32 := 0#32
  let v474 : BitVec 1 := Scalar.cmpi .ne v473 c0_i32_400
  v474

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev52 : Nat :=
  let c0_i32_1597 : BitVec 32 := 0#32
  let c20_i32_1595 : BitVec 32 := 20#32
  let c1_i32_1596 : BitVec 32 := 1#32
  let v1989 : BitVec 32 := Scalar.muli c20_i32_1595 c1_i32_1596
  let v1990 : BitVec 32 := Scalar.addi c0_i32_1597 v1989
  v1990.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_405 : BitVec 32 := 21#32
  let v482 : BitVec 1 := Scalar.cmpi .ne v2 c21_i32_405
  let v483 : BitVec 32 := Scalar.extui v482
  let c0_i32_408 : BitVec 32 := 0#32
  let v484 : BitVec 1 := Scalar.cmpi .ne v483 c0_i32_408
  v484

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev53 : Nat :=
  let c0_i32_1597 : BitVec 32 := 0#32
  let c21_i32_1595 : BitVec 32 := 21#32
  let c1_i32_1596 : BitVec 32 := 1#32
  let v1989 : BitVec 32 := Scalar.muli c21_i32_1595 c1_i32_1596
  let v1990 : BitVec 32 := Scalar.addi c0_i32_1597 v1989
  v1990.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_413 : BitVec 32 := 22#32
  let v492 : BitVec 1 := Scalar.cmpi .ne v2 c22_i32_413
  let v493 : BitVec 32 := Scalar.extui v492
  let c0_i32_416 : BitVec 32 := 0#32
  let v494 : BitVec 1 := Scalar.cmpi .ne v493 c0_i32_416
  v494

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev54 : Nat :=
  let c0_i32_1597 : BitVec 32 := 0#32
  let c22_i32_1595 : BitVec 32 := 22#32
  let c1_i32_1596 : BitVec 32 := 1#32
  let v1989 : BitVec 32 := Scalar.muli c22_i32_1595 c1_i32_1596
  let v1990 : BitVec 32 := Scalar.addi c0_i32_1597 v1989
  v1990.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_421 : BitVec 32 := 23#32
  let v502 : BitVec 1 := Scalar.cmpi .ne v2 c23_i32_421
  let v503 : BitVec 32 := Scalar.extui v502
  let c0_i32_424 : BitVec 32 := 0#32
  let v504 : BitVec 1 := Scalar.cmpi .ne v503 c0_i32_424
  v504

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev55 : Nat :=
  let c0_i32_1597 : BitVec 32 := 0#32
  let c23_i32_1595 : BitVec 32 := 23#32
  let c1_i32_1596 : BitVec 32 := 1#32
  let v1989 : BitVec 32 := Scalar.muli c23_i32_1595 c1_i32_1596
  let v1990 : BitVec 32 := Scalar.addi c0_i32_1597 v1989
  v1990.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_446 : BitVec 32 := 24#32
  let v534 : BitVec 1 := Scalar.cmpi .ne v2 c24_i32_446
  let v535 : BitVec 32 := Scalar.extui v534
  let c0_i32_449 : BitVec 32 := 0#32
  let v536 : BitVec 1 := Scalar.cmpi .ne v535 c0_i32_449
  v536

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev56 : Nat :=
  let c0_i32_1597 : BitVec 32 := 0#32
  let c24_i32_1595 : BitVec 32 := 24#32
  let c1_i32_1596 : BitVec 32 := 1#32
  let v1989 : BitVec 32 := Scalar.muli c24_i32_1595 c1_i32_1596
  let v1990 : BitVec 32 := Scalar.addi c0_i32_1597 v1989
  v1990.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_454 : BitVec 32 := 25#32
  let v544 : BitVec 1 := Scalar.cmpi .ne v2 c25_i32_454
  let v545 : BitVec 32 := Scalar.extui v544
  let c0_i32_457 : BitVec 32 := 0#32
  let v546 : BitVec 1 := Scalar.cmpi .ne v545 c0_i32_457
  v546

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev57 : Nat :=
  let c0_i32_1597 : BitVec 32 := 0#32
  let c25_i32_1595 : BitVec 32 := 25#32
  let c1_i32_1596 : BitVec 32 := 1#32
  let v1989 : BitVec 32 := Scalar.muli c25_i32_1595 c1_i32_1596
  let v1990 : BitVec 32 := Scalar.addi c0_i32_1597 v1989
  v1990.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_462 : BitVec 32 := 26#32
  let v554 : BitVec 1 := Scalar.cmpi .ne v2 c26_i32_462
  let v555 : BitVec 32 := Scalar.extui v554
  let c0_i32_465 : BitVec 32 := 0#32
  let v556 : BitVec 1 := Scalar.cmpi .ne v555 c0_i32_465
  v556

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev58 : Nat :=
  let c0_i32_1597 : BitVec 32 := 0#32
  let c26_i32_1595 : BitVec 32 := 26#32
  let c1_i32_1596 : BitVec 32 := 1#32
  let v1989 : BitVec 32 := Scalar.muli c26_i32_1595 c1_i32_1596
  let v1990 : BitVec 32 := Scalar.addi c0_i32_1597 v1989
  v1990.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_470 : BitVec 32 := 27#32
  let v564 : BitVec 1 := Scalar.cmpi .ne v2 c27_i32_470
  let v565 : BitVec 32 := Scalar.extui v564
  let c0_i32_473 : BitVec 32 := 0#32
  let v566 : BitVec 1 := Scalar.cmpi .ne v565 c0_i32_473
  v566

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev59 : Nat :=
  let c0_i32_1597 : BitVec 32 := 0#32
  let c27_i32_1595 : BitVec 32 := 27#32
  let c1_i32_1596 : BitVec 32 := 1#32
  let v1989 : BitVec 32 := Scalar.muli c27_i32_1595 c1_i32_1596
  let v1990 : BitVec 32 := Scalar.addi c0_i32_1597 v1989
  v1990.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_490 : BitVec 32 := 28#32
  let v591 : BitVec 1 := Scalar.cmpi .ne v2 c28_i32_490
  let v592 : BitVec 32 := Scalar.extui v591
  let c0_i32_493 : BitVec 32 := 0#32
  let v593 : BitVec 1 := Scalar.cmpi .ne v592 c0_i32_493
  v593

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev60 : Nat :=
  let c0_i32_1597 : BitVec 32 := 0#32
  let c28_i32_1595 : BitVec 32 := 28#32
  let c1_i32_1596 : BitVec 32 := 1#32
  let v1989 : BitVec 32 := Scalar.muli c28_i32_1595 c1_i32_1596
  let v1990 : BitVec 32 := Scalar.addi c0_i32_1597 v1989
  v1990.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_498 : BitVec 32 := 29#32
  let v601 : BitVec 1 := Scalar.cmpi .ne v2 c29_i32_498
  let v602 : BitVec 32 := Scalar.extui v601
  let c0_i32_501 : BitVec 32 := 0#32
  let v603 : BitVec 1 := Scalar.cmpi .ne v602 c0_i32_501
  v603

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev61 : Nat :=
  let c0_i32_1597 : BitVec 32 := 0#32
  let c29_i32_1595 : BitVec 32 := 29#32
  let c1_i32_1596 : BitVec 32 := 1#32
  let v1989 : BitVec 32 := Scalar.muli c29_i32_1595 c1_i32_1596
  let v1990 : BitVec 32 := Scalar.addi c0_i32_1597 v1989
  v1990.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_506 : BitVec 32 := 30#32
  let v611 : BitVec 1 := Scalar.cmpi .ne v2 c30_i32_506
  let v612 : BitVec 32 := Scalar.extui v611
  let c0_i32_509 : BitVec 32 := 0#32
  let v613 : BitVec 1 := Scalar.cmpi .ne v612 c0_i32_509
  v613

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev62 : Nat :=
  let c0_i32_1597 : BitVec 32 := 0#32
  let c30_i32_1595 : BitVec 32 := 30#32
  let c1_i32_1596 : BitVec 32 := 1#32
  let v1989 : BitVec 32 := Scalar.muli c30_i32_1595 c1_i32_1596
  let v1990 : BitVec 32 := Scalar.addi c0_i32_1597 v1989
  v1990.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_514 : BitVec 32 := 31#32
  let v621 : BitVec 1 := Scalar.cmpi .ne v2 c31_i32_514
  let v622 : BitVec 32 := Scalar.extui v621
  let c0_i32_517 : BitVec 32 := 0#32
  let v623 : BitVec 1 := Scalar.cmpi .ne v622 c0_i32_517
  v623

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1598 : BitVec 32 := 0#32
  let c0_i32_1599 : BitVec 32 := 0#32
  ![v2.toNat, 0, 0]
def k0_dev63 : Nat :=
  let c0_i32_1597 : BitVec 32 := 0#32
  let c31_i32_1595 : BitVec 32 := 31#32
  let c1_i32_1596 : BitVec 32 := 1#32
  let v1989 : BitVec 32 := Scalar.muli c31_i32_1595 c1_i32_1596
  let v1990 : BitVec 32 := Scalar.addi c0_i32_1597 v1989
  v1990.toNat
def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_527 : BitVec 32 := 0#32
  let c0_i32_528 : BitVec 32 := 0#32
  ![v2.toNat, 0, 0]
def k0_dev64 (d0 : Dev nD) : Nat :=
  let c0_i32_526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_522 : BitVec 32 := 1#32
  let v631 : BitVec 32 := Scalar.addi v2 c1_i32_522
  let c32_i32_523 : BitVec 32 := 32#32
  let v632 : BitVec 32 := Scalar.remsi v631 c32_i32_523
  let c1_i32_525 : BitVec 32 := 1#32
  let v633 : BitVec 32 := Scalar.muli v632 c1_i32_525
  let v634 : BitVec 32 := Scalar.addi c0_i32_526 v633
  v634.toNat
def k0_dev65 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_529 : BitVec 32 := 2#32
  let v641 : BitVec 32 := Scalar.addi v2 c2_i32_529
  let c32_i32_530 : BitVec 32 := 32#32
  let v642 : BitVec 32 := Scalar.remsi v641 c32_i32_530
  let c1_i32_532 : BitVec 32 := 1#32
  let v643 : BitVec 32 := Scalar.muli v642 c1_i32_532
  let v644 : BitVec 32 := Scalar.addi c0_i32_533 v643
  v644.toNat
def k0_dev66 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_536 : BitVec 32 := 3#32
  let v651 : BitVec 32 := Scalar.addi v2 c3_i32_536
  let c32_i32_537 : BitVec 32 := 32#32
  let v652 : BitVec 32 := Scalar.remsi v651 c32_i32_537
  let c1_i32_539 : BitVec 32 := 1#32
  let v653 : BitVec 32 := Scalar.muli v652 c1_i32_539
  let v654 : BitVec 32 := Scalar.addi c0_i32_540 v653
  v654.toNat
def k0_dev67 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_543 : BitVec 32 := 4#32
  let v661 : BitVec 32 := Scalar.addi v2 c4_i32_543
  let c32_i32_544 : BitVec 32 := 32#32
  let v662 : BitVec 32 := Scalar.remsi v661 c32_i32_544
  let c1_i32_546 : BitVec 32 := 1#32
  let v663 : BitVec 32 := Scalar.muli v662 c1_i32_546
  let v664 : BitVec 32 := Scalar.addi c0_i32_547 v663
  v664.toNat
def k0_dev68 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_550 : BitVec 32 := 5#32
  let v671 : BitVec 32 := Scalar.addi v2 c5_i32_550
  let c32_i32_551 : BitVec 32 := 32#32
  let v672 : BitVec 32 := Scalar.remsi v671 c32_i32_551
  let c1_i32_553 : BitVec 32 := 1#32
  let v673 : BitVec 32 := Scalar.muli v672 c1_i32_553
  let v674 : BitVec 32 := Scalar.addi c0_i32_554 v673
  v674.toNat
def k0_dev69 (d0 : Dev nD) : Nat :=
  let c0_i32_561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_557 : BitVec 32 := 6#32
  let v681 : BitVec 32 := Scalar.addi v2 c6_i32_557
  let c32_i32_558 : BitVec 32 := 32#32
  let v682 : BitVec 32 := Scalar.remsi v681 c32_i32_558
  let c1_i32_560 : BitVec 32 := 1#32
  let v683 : BitVec 32 := Scalar.muli v682 c1_i32_560
  let v684 : BitVec 32 := Scalar.addi c0_i32_561 v683
  v684.toNat
def k0_dev70 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_564 : BitVec 32 := 7#32
  let v691 : BitVec 32 := Scalar.addi v2 c7_i32_564
  let c32_i32_565 : BitVec 32 := 32#32
  let v692 : BitVec 32 := Scalar.remsi v691 c32_i32_565
  let c1_i32_567 : BitVec 32 := 1#32
  let v693 : BitVec 32 := Scalar.muli v692 c1_i32_567
  let v694 : BitVec 32 := Scalar.addi c0_i32_568 v693
  v694.toNat
def k0_dev71 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_571 : BitVec 32 := 8#32
  let v701 : BitVec 32 := Scalar.addi v2 c8_i32_571
  let c32_i32_572 : BitVec 32 := 32#32
  let v702 : BitVec 32 := Scalar.remsi v701 c32_i32_572
  let c1_i32_574 : BitVec 32 := 1#32
  let v703 : BitVec 32 := Scalar.muli v702 c1_i32_574
  let v704 : BitVec 32 := Scalar.addi c0_i32_575 v703
  v704.toNat
def k0_dev72 (d0 : Dev nD) : Nat :=
  let c0_i32_582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_578 : BitVec 32 := 9#32
  let v711 : BitVec 32 := Scalar.addi v2 c9_i32_578
  let c32_i32_579 : BitVec 32 := 32#32
  let v712 : BitVec 32 := Scalar.remsi v711 c32_i32_579
  let c1_i32_581 : BitVec 32 := 1#32
  let v713 : BitVec 32 := Scalar.muli v712 c1_i32_581
  let v714 : BitVec 32 := Scalar.addi c0_i32_582 v713
  v714.toNat
def k0_dev73 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_585 : BitVec 32 := 10#32
  let v721 : BitVec 32 := Scalar.addi v2 c10_i32_585
  let c32_i32_586 : BitVec 32 := 32#32
  let v722 : BitVec 32 := Scalar.remsi v721 c32_i32_586
  let c1_i32_588 : BitVec 32 := 1#32
  let v723 : BitVec 32 := Scalar.muli v722 c1_i32_588
  let v724 : BitVec 32 := Scalar.addi c0_i32_589 v723
  v724.toNat
def k0_dev74 (d0 : Dev nD) : Nat :=
  let c0_i32_596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_592 : BitVec 32 := 11#32
  let v731 : BitVec 32 := Scalar.addi v2 c11_i32_592
  let c32_i32_593 : BitVec 32 := 32#32
  let v732 : BitVec 32 := Scalar.remsi v731 c32_i32_593
  let c1_i32_595 : BitVec 32 := 1#32
  let v733 : BitVec 32 := Scalar.muli v732 c1_i32_595
  let v734 : BitVec 32 := Scalar.addi c0_i32_596 v733
  v734.toNat
def k0_dev75 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_599 : BitVec 32 := 12#32
  let v741 : BitVec 32 := Scalar.addi v2 c12_i32_599
  let c32_i32_600 : BitVec 32 := 32#32
  let v742 : BitVec 32 := Scalar.remsi v741 c32_i32_600
  let c1_i32_602 : BitVec 32 := 1#32
  let v743 : BitVec 32 := Scalar.muli v742 c1_i32_602
  let v744 : BitVec 32 := Scalar.addi c0_i32_603 v743
  v744.toNat
def k0_dev76 (d0 : Dev nD) : Nat :=
  let c0_i32_610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_606 : BitVec 32 := 13#32
  let v751 : BitVec 32 := Scalar.addi v2 c13_i32_606
  let c32_i32_607 : BitVec 32 := 32#32
  let v752 : BitVec 32 := Scalar.remsi v751 c32_i32_607
  let c1_i32_609 : BitVec 32 := 1#32
  let v753 : BitVec 32 := Scalar.muli v752 c1_i32_609
  let v754 : BitVec 32 := Scalar.addi c0_i32_610 v753
  v754.toNat
def k0_dev77 (d0 : Dev nD) : Nat :=
  let c0_i32_617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_613 : BitVec 32 := 14#32
  let v761 : BitVec 32 := Scalar.addi v2 c14_i32_613
  let c32_i32_614 : BitVec 32 := 32#32
  let v762 : BitVec 32 := Scalar.remsi v761 c32_i32_614
  let c1_i32_616 : BitVec 32 := 1#32
  let v763 : BitVec 32 := Scalar.muli v762 c1_i32_616
  let v764 : BitVec 32 := Scalar.addi c0_i32_617 v763
  v764.toNat
def k0_dev78 (d0 : Dev nD) : Nat :=
  let c0_i32_624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_620 : BitVec 32 := 15#32
  let v771 : BitVec 32 := Scalar.addi v2 c15_i32_620
  let c32_i32_621 : BitVec 32 := 32#32
  let v772 : BitVec 32 := Scalar.remsi v771 c32_i32_621
  let c1_i32_623 : BitVec 32 := 1#32
  let v773 : BitVec 32 := Scalar.muli v772 c1_i32_623
  let v774 : BitVec 32 := Scalar.addi c0_i32_624 v773
  v774.toNat
def k0_dev79 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_627 : BitVec 32 := 16#32
  let v781 : BitVec 32 := Scalar.addi v2 c16_i32_627
  let c32_i32_628 : BitVec 32 := 32#32
  let v782 : BitVec 32 := Scalar.remsi v781 c32_i32_628
  let c1_i32_630 : BitVec 32 := 1#32
  let v783 : BitVec 32 := Scalar.muli v782 c1_i32_630
  let v784 : BitVec 32 := Scalar.addi c0_i32_631 v783
  v784.toNat
def k0_dev80 (d0 : Dev nD) : Nat :=
  let c0_i32_638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_634 : BitVec 32 := 17#32
  let v791 : BitVec 32 := Scalar.addi v2 c17_i32_634
  let c32_i32_635 : BitVec 32 := 32#32
  let v792 : BitVec 32 := Scalar.remsi v791 c32_i32_635
  let c1_i32_637 : BitVec 32 := 1#32
  let v793 : BitVec 32 := Scalar.muli v792 c1_i32_637
  let v794 : BitVec 32 := Scalar.addi c0_i32_638 v793
  v794.toNat
def k0_dev81 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_641 : BitVec 32 := 18#32
  let v801 : BitVec 32 := Scalar.addi v2 c18_i32_641
  let c32_i32_642 : BitVec 32 := 32#32
  let v802 : BitVec 32 := Scalar.remsi v801 c32_i32_642
  let c1_i32_644 : BitVec 32 := 1#32
  let v803 : BitVec 32 := Scalar.muli v802 c1_i32_644
  let v804 : BitVec 32 := Scalar.addi c0_i32_645 v803
  v804.toNat
def k0_dev82 (d0 : Dev nD) : Nat :=
  let c0_i32_652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_648 : BitVec 32 := 19#32
  let v811 : BitVec 32 := Scalar.addi v2 c19_i32_648
  let c32_i32_649 : BitVec 32 := 32#32
  let v812 : BitVec 32 := Scalar.remsi v811 c32_i32_649
  let c1_i32_651 : BitVec 32 := 1#32
  let v813 : BitVec 32 := Scalar.muli v812 c1_i32_651
  let v814 : BitVec 32 := Scalar.addi c0_i32_652 v813
  v814.toNat
def k0_dev83 (d0 : Dev nD) : Nat :=
  let c0_i32_659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_655 : BitVec 32 := 20#32
  let v821 : BitVec 32 := Scalar.addi v2 c20_i32_655
  let c32_i32_656 : BitVec 32 := 32#32
  let v822 : BitVec 32 := Scalar.remsi v821 c32_i32_656
  let c1_i32_658 : BitVec 32 := 1#32
  let v823 : BitVec 32 := Scalar.muli v822 c1_i32_658
  let v824 : BitVec 32 := Scalar.addi c0_i32_659 v823
  v824.toNat
def k0_dev84 (d0 : Dev nD) : Nat :=
  let c0_i32_666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_662 : BitVec 32 := 21#32
  let v831 : BitVec 32 := Scalar.addi v2 c21_i32_662
  let c32_i32_663 : BitVec 32 := 32#32
  let v832 : BitVec 32 := Scalar.remsi v831 c32_i32_663
  let c1_i32_665 : BitVec 32 := 1#32
  let v833 : BitVec 32 := Scalar.muli v832 c1_i32_665
  let v834 : BitVec 32 := Scalar.addi c0_i32_666 v833
  v834.toNat
def k0_dev85 (d0 : Dev nD) : Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_669 : BitVec 32 := 22#32
  let v841 : BitVec 32 := Scalar.addi v2 c22_i32_669
  let c32_i32_670 : BitVec 32 := 32#32
  let v842 : BitVec 32 := Scalar.remsi v841 c32_i32_670
  let c1_i32_672 : BitVec 32 := 1#32
  let v843 : BitVec 32 := Scalar.muli v842 c1_i32_672
  let v844 : BitVec 32 := Scalar.addi c0_i32_673 v843
  v844.toNat
def k0_dev86 (d0 : Dev nD) : Nat :=
  let c0_i32_680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_676 : BitVec 32 := 23#32
  let v851 : BitVec 32 := Scalar.addi v2 c23_i32_676
  let c32_i32_677 : BitVec 32 := 32#32
  let v852 : BitVec 32 := Scalar.remsi v851 c32_i32_677
  let c1_i32_679 : BitVec 32 := 1#32
  let v853 : BitVec 32 := Scalar.muli v852 c1_i32_679
  let v854 : BitVec 32 := Scalar.addi c0_i32_680 v853
  v854.toNat
def k0_dev87 (d0 : Dev nD) : Nat :=
  let c0_i32_687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_683 : BitVec 32 := 24#32
  let v861 : BitVec 32 := Scalar.addi v2 c24_i32_683
  let c32_i32_684 : BitVec 32 := 32#32
  let v862 : BitVec 32 := Scalar.remsi v861 c32_i32_684
  let c1_i32_686 : BitVec 32 := 1#32
  let v863 : BitVec 32 := Scalar.muli v862 c1_i32_686
  let v864 : BitVec 32 := Scalar.addi c0_i32_687 v863
  v864.toNat
def k0_dev88 (d0 : Dev nD) : Nat :=
  let c0_i32_694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_690 : BitVec 32 := 25#32
  let v871 : BitVec 32 := Scalar.addi v2 c25_i32_690
  let c32_i32_691 : BitVec 32 := 32#32
  let v872 : BitVec 32 := Scalar.remsi v871 c32_i32_691
  let c1_i32_693 : BitVec 32 := 1#32
  let v873 : BitVec 32 := Scalar.muli v872 c1_i32_693
  let v874 : BitVec 32 := Scalar.addi c0_i32_694 v873
  v874.toNat
def k0_dev89 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_697 : BitVec 32 := 26#32
  let v881 : BitVec 32 := Scalar.addi v2 c26_i32_697
  let c32_i32_698 : BitVec 32 := 32#32
  let v882 : BitVec 32 := Scalar.remsi v881 c32_i32_698
  let c1_i32_700 : BitVec 32 := 1#32
  let v883 : BitVec 32 := Scalar.muli v882 c1_i32_700
  let v884 : BitVec 32 := Scalar.addi c0_i32_701 v883
  v884.toNat
def k0_dev90 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_704 : BitVec 32 := 27#32
  let v891 : BitVec 32 := Scalar.addi v2 c27_i32_704
  let c32_i32_705 : BitVec 32 := 32#32
  let v892 : BitVec 32 := Scalar.remsi v891 c32_i32_705
  let c1_i32_707 : BitVec 32 := 1#32
  let v893 : BitVec 32 := Scalar.muli v892 c1_i32_707
  let v894 : BitVec 32 := Scalar.addi c0_i32_708 v893
  v894.toNat
def k0_dev91 (d0 : Dev nD) : Nat :=
  let c0_i32_715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_711 : BitVec 32 := 28#32
  let v901 : BitVec 32 := Scalar.addi v2 c28_i32_711
  let c32_i32_712 : BitVec 32 := 32#32
  let v902 : BitVec 32 := Scalar.remsi v901 c32_i32_712
  let c1_i32_714 : BitVec 32 := 1#32
  let v903 : BitVec 32 := Scalar.muli v902 c1_i32_714
  let v904 : BitVec 32 := Scalar.addi c0_i32_715 v903
  v904.toNat
def k0_dev92 (d0 : Dev nD) : Nat :=
  let c0_i32_722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_718 : BitVec 32 := 29#32
  let v911 : BitVec 32 := Scalar.addi v2 c29_i32_718
  let c32_i32_719 : BitVec 32 := 32#32
  let v912 : BitVec 32 := Scalar.remsi v911 c32_i32_719
  let c1_i32_721 : BitVec 32 := 1#32
  let v913 : BitVec 32 := Scalar.muli v912 c1_i32_721
  let v914 : BitVec 32 := Scalar.addi c0_i32_722 v913
  v914.toNat
def k0_dev93 (d0 : Dev nD) : Nat :=
  let c0_i32_729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_725 : BitVec 32 := 30#32
  let v921 : BitVec 32 := Scalar.addi v2 c30_i32_725
  let c32_i32_726 : BitVec 32 := 32#32
  let v922 : BitVec 32 := Scalar.remsi v921 c32_i32_726
  let c1_i32_728 : BitVec 32 := 1#32
  let v923 : BitVec 32 := Scalar.muli v922 c1_i32_728
  let v924 : BitVec 32 := Scalar.addi c0_i32_729 v923
  v924.toNat
def k0_dev94 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_732 : BitVec 32 := 31#32
  let v931 : BitVec 32 := Scalar.addi v2 c31_i32_732
  let c32_i32_733 : BitVec 32 := 32#32
  let v932 : BitVec 32 := Scalar.remsi v931 c32_i32_733
  let c1_i32_735 : BitVec 32 := 1#32
  let v933 : BitVec 32 := Scalar.muli v932 c1_i32_735
  let v934 : BitVec 32 := Scalar.addi c0_i32_736 v933
  v934.toNat
def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v942 : Index := Scalar.indexCast v2
  let c0_741 : Index := 0#32
  let c0_742 : Index := 0#32
  ![v942.toNat, 0, 0]
def k0_off68 (d0 : Dev nD) (c1_i32_743 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v946 : BitVec 32 := Scalar.addi v2 c1_i32_743
  let c32_i32_744 : BitVec 32 := 32#32
  let v947 : BitVec 32 := Scalar.remsi v946 c32_i32_744
  ![v947.toNat]
def k0_off69 (d0 : Dev nD) (c1_i32_743 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v946 : BitVec 32 := Scalar.addi v2 c1_i32_743
  let c32_i32_744 : BitVec 32 := 32#32
  let v947 : BitVec 32 := Scalar.remsi v946 c32_i32_744
  let c0_i32_749 : BitVec 32 := 0#32
  let c0_i32_750 : BitVec 32 := 0#32
  ![v947.toNat, 0, 0]
def k0_off70 (d0 : Dev nD) (c1_i32_743 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v946 : BitVec 32 := Scalar.addi v2 c1_i32_743
  let c32_i32_744 : BitVec 32 := 32#32
  let v947 : BitVec 32 := Scalar.remsi v946 c32_i32_744
  let c0_i32_756 : BitVec 32 := 0#32
  let c0_i32_757 : BitVec 32 := 0#32
  ![v947.toNat, 0, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1343 : BitVec 32 := 0#32
  let v1769 : BitVec 1 := Scalar.cmpi .ne v2 c0_i32_1343
  let v1770 : BitVec 32 := Scalar.extui v1769
  let c0_i32_1346 : BitVec 32 := 0#32
  let v1771 : BitVec 1 := Scalar.cmpi .ne v1770 c0_i32_1346
  v1771

def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1347 : BitVec 32 := 1#32
  let v1772 : BitVec 1 := Scalar.cmpi .ne v2 c1_i32_1347
  let v1773 : BitVec 32 := Scalar.extui v1772
  let c0_i32_1350 : BitVec 32 := 0#32
  let v1774 : BitVec 1 := Scalar.cmpi .ne v1773 c0_i32_1350
  v1774

def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1351 : BitVec 32 := 2#32
  let v1775 : BitVec 1 := Scalar.cmpi .ne v2 c2_i32_1351
  let v1776 : BitVec 32 := Scalar.extui v1775
  let c0_i32_1354 : BitVec 32 := 0#32
  let v1777 : BitVec 1 := Scalar.cmpi .ne v1776 c0_i32_1354
  v1777

def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1355 : BitVec 32 := 3#32
  let v1778 : BitVec 1 := Scalar.cmpi .ne v2 c3_i32_1355
  let v1779 : BitVec 32 := Scalar.extui v1778
  let c0_i32_1358 : BitVec 32 := 0#32
  let v1780 : BitVec 1 := Scalar.cmpi .ne v1779 c0_i32_1358
  v1780

def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1359 : BitVec 32 := 4#32
  let v1781 : BitVec 1 := Scalar.cmpi .ne v2 c4_i32_1359
  let v1782 : BitVec 32 := Scalar.extui v1781
  let c0_i32_1362 : BitVec 32 := 0#32
  let v1783 : BitVec 1 := Scalar.cmpi .ne v1782 c0_i32_1362
  v1783

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1363 : BitVec 32 := 5#32
  let v1784 : BitVec 1 := Scalar.cmpi .ne v2 c5_i32_1363
  let v1785 : BitVec 32 := Scalar.extui v1784
  let c0_i32_1366 : BitVec 32 := 0#32
  let v1786 : BitVec 1 := Scalar.cmpi .ne v1785 c0_i32_1366
  v1786

def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1367 : BitVec 32 := 6#32
  let v1787 : BitVec 1 := Scalar.cmpi .ne v2 c6_i32_1367
  let v1788 : BitVec 32 := Scalar.extui v1787
  let c0_i32_1370 : BitVec 32 := 0#32
  let v1789 : BitVec 1 := Scalar.cmpi .ne v1788 c0_i32_1370
  v1789

def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1371 : BitVec 32 := 7#32
  let v1790 : BitVec 1 := Scalar.cmpi .ne v2 c7_i32_1371
  let v1791 : BitVec 32 := Scalar.extui v1790
  let c0_i32_1374 : BitVec 32 := 0#32
  let v1792 : BitVec 1 := Scalar.cmpi .ne v1791 c0_i32_1374
  v1792

def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1375 : BitVec 32 := 8#32
  let v1793 : BitVec 1 := Scalar.cmpi .ne v2 c8_i32_1375
  let v1794 : BitVec 32 := Scalar.extui v1793
  let c0_i32_1378 : BitVec 32 := 0#32
  let v1795 : BitVec 1 := Scalar.cmpi .ne v1794 c0_i32_1378
  v1795

def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1379 : BitVec 32 := 9#32
  let v1796 : BitVec 1 := Scalar.cmpi .ne v2 c9_i32_1379
  let v1797 : BitVec 32 := Scalar.extui v1796
  let c0_i32_1382 : BitVec 32 := 0#32
  let v1798 : BitVec 1 := Scalar.cmpi .ne v1797 c0_i32_1382
  v1798

def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1383 : BitVec 32 := 10#32
  let v1799 : BitVec 1 := Scalar.cmpi .ne v2 c10_i32_1383
  let v1800 : BitVec 32 := Scalar.extui v1799
  let c0_i32_1386 : BitVec 32 := 0#32
  let v1801 : BitVec 1 := Scalar.cmpi .ne v1800 c0_i32_1386
  v1801

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1387 : BitVec 32 := 11#32
  let v1802 : BitVec 1 := Scalar.cmpi .ne v2 c11_i32_1387
  let v1803 : BitVec 32 := Scalar.extui v1802
  let c0_i32_1390 : BitVec 32 := 0#32
  let v1804 : BitVec 1 := Scalar.cmpi .ne v1803 c0_i32_1390
  v1804

def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1391 : BitVec 32 := 12#32
  let v1805 : BitVec 1 := Scalar.cmpi .ne v2 c12_i32_1391
  let v1806 : BitVec 32 := Scalar.extui v1805
  let c0_i32_1394 : BitVec 32 := 0#32
  let v1807 : BitVec 1 := Scalar.cmpi .ne v1806 c0_i32_1394
  v1807

def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1395 : BitVec 32 := 13#32
  let v1808 : BitVec 1 := Scalar.cmpi .ne v2 c13_i32_1395
  let v1809 : BitVec 32 := Scalar.extui v1808
  let c0_i32_1398 : BitVec 32 := 0#32
  let v1810 : BitVec 1 := Scalar.cmpi .ne v1809 c0_i32_1398
  v1810

def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1399 : BitVec 32 := 14#32
  let v1811 : BitVec 1 := Scalar.cmpi .ne v2 c14_i32_1399
  let v1812 : BitVec 32 := Scalar.extui v1811
  let c0_i32_1402 : BitVec 32 := 0#32
  let v1813 : BitVec 1 := Scalar.cmpi .ne v1812 c0_i32_1402
  v1813

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1403 : BitVec 32 := 15#32
  let v1814 : BitVec 1 := Scalar.cmpi .ne v2 c15_i32_1403
  let v1815 : BitVec 32 := Scalar.extui v1814
  let c0_i32_1406 : BitVec 32 := 0#32
  let v1816 : BitVec 1 := Scalar.cmpi .ne v1815 c0_i32_1406
  v1816

def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1407 : BitVec 32 := 16#32
  let v1817 : BitVec 1 := Scalar.cmpi .ne v2 c16_i32_1407
  let v1818 : BitVec 32 := Scalar.extui v1817
  let c0_i32_1410 : BitVec 32 := 0#32
  let v1819 : BitVec 1 := Scalar.cmpi .ne v1818 c0_i32_1410
  v1819

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1411 : BitVec 32 := 17#32
  let v1820 : BitVec 1 := Scalar.cmpi .ne v2 c17_i32_1411
  let v1821 : BitVec 32 := Scalar.extui v1820
  let c0_i32_1414 : BitVec 32 := 0#32
  let v1822 : BitVec 1 := Scalar.cmpi .ne v1821 c0_i32_1414
  v1822

def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1415 : BitVec 32 := 18#32
  let v1823 : BitVec 1 := Scalar.cmpi .ne v2 c18_i32_1415
  let v1824 : BitVec 32 := Scalar.extui v1823
  let c0_i32_1418 : BitVec 32 := 0#32
  let v1825 : BitVec 1 := Scalar.cmpi .ne v1824 c0_i32_1418
  v1825

def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1419 : BitVec 32 := 19#32
  let v1826 : BitVec 1 := Scalar.cmpi .ne v2 c19_i32_1419
  let v1827 : BitVec 32 := Scalar.extui v1826
  let c0_i32_1422 : BitVec 32 := 0#32
  let v1828 : BitVec 1 := Scalar.cmpi .ne v1827 c0_i32_1422
  v1828

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1423 : BitVec 32 := 20#32
  let v1829 : BitVec 1 := Scalar.cmpi .ne v2 c20_i32_1423
  let v1830 : BitVec 32 := Scalar.extui v1829
  let c0_i32_1426 : BitVec 32 := 0#32
  let v1831 : BitVec 1 := Scalar.cmpi .ne v1830 c0_i32_1426
  v1831

def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1427 : BitVec 32 := 21#32
  let v1832 : BitVec 1 := Scalar.cmpi .ne v2 c21_i32_1427
  let v1833 : BitVec 32 := Scalar.extui v1832
  let c0_i32_1430 : BitVec 32 := 0#32
  let v1834 : BitVec 1 := Scalar.cmpi .ne v1833 c0_i32_1430
  v1834

def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1431 : BitVec 32 := 22#32
  let v1835 : BitVec 1 := Scalar.cmpi .ne v2 c22_i32_1431
  let v1836 : BitVec 32 := Scalar.extui v1835
  let c0_i32_1434 : BitVec 32 := 0#32
  let v1837 : BitVec 1 := Scalar.cmpi .ne v1836 c0_i32_1434
  v1837

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1435 : BitVec 32 := 23#32
  let v1838 : BitVec 1 := Scalar.cmpi .ne v2 c23_i32_1435
  let v1839 : BitVec 32 := Scalar.extui v1838
  let c0_i32_1438 : BitVec 32 := 0#32
  let v1840 : BitVec 1 := Scalar.cmpi .ne v1839 c0_i32_1438
  v1840

def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1439 : BitVec 32 := 24#32
  let v1841 : BitVec 1 := Scalar.cmpi .ne v2 c24_i32_1439
  let v1842 : BitVec 32 := Scalar.extui v1841
  let c0_i32_1442 : BitVec 32 := 0#32
  let v1843 : BitVec 1 := Scalar.cmpi .ne v1842 c0_i32_1442
  v1843

def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1443 : BitVec 32 := 25#32
  let v1844 : BitVec 1 := Scalar.cmpi .ne v2 c25_i32_1443
  let v1845 : BitVec 32 := Scalar.extui v1844
  let c0_i32_1446 : BitVec 32 := 0#32
  let v1846 : BitVec 1 := Scalar.cmpi .ne v1845 c0_i32_1446
  v1846

def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1447 : BitVec 32 := 26#32
  let v1847 : BitVec 1 := Scalar.cmpi .ne v2 c26_i32_1447
  let v1848 : BitVec 32 := Scalar.extui v1847
  let c0_i32_1450 : BitVec 32 := 0#32
  let v1849 : BitVec 1 := Scalar.cmpi .ne v1848 c0_i32_1450
  v1849

def k0_off97 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1451 : BitVec 32 := 27#32
  let v1850 : BitVec 1 := Scalar.cmpi .ne v2 c27_i32_1451
  let v1851 : BitVec 32 := Scalar.extui v1850
  let c0_i32_1454 : BitVec 32 := 0#32
  let v1852 : BitVec 1 := Scalar.cmpi .ne v1851 c0_i32_1454
  v1852

def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1455 : BitVec 32 := 28#32
  let v1853 : BitVec 1 := Scalar.cmpi .ne v2 c28_i32_1455
  let v1854 : BitVec 32 := Scalar.extui v1853
  let c0_i32_1458 : BitVec 32 := 0#32
  let v1855 : BitVec 1 := Scalar.cmpi .ne v1854 c0_i32_1458
  v1855

def k0_off99 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1459 : BitVec 32 := 29#32
  let v1856 : BitVec 1 := Scalar.cmpi .ne v2 c29_i32_1459
  let v1857 : BitVec 32 := Scalar.extui v1856
  let c0_i32_1462 : BitVec 32 := 0#32
  let v1858 : BitVec 1 := Scalar.cmpi .ne v1857 c0_i32_1462
  v1858

def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1463 : BitVec 32 := 30#32
  let v1859 : BitVec 1 := Scalar.cmpi .ne v2 c30_i32_1463
  let v1860 : BitVec 32 := Scalar.extui v1859
  let c0_i32_1466 : BitVec 32 := 0#32
  let v1861 : BitVec 1 := Scalar.cmpi .ne v1860 c0_i32_1466
  v1861

def k0_off101 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1467 : BitVec 32 := 31#32
  let v1862 : BitVec 1 := Scalar.cmpi .ne v2 c31_i32_1467
  let v1863 : BitVec 32 := Scalar.extui v1862
  let c0_i32_1470 : BitVec 32 := 0#32
  let v1864 : BitVec 1 := Scalar.cmpi .ne v1863 c0_i32_1470
  v1864

def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1599 : BitVec 32 := 0#32
  let c0_i32_1600 : BitVec 32 := 0#32
  ![v2.toNat, 0, 0]
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 17
  | .vmem => 4
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S1x1, .f32⟩
  | .hbm, ⟨16, _⟩ => ⟨S4096x8192, .f32⟩
  | .local _ .vmem, ⟨0, _⟩ => ⟨S4096x8192, .f32⟩
  | .local _ .vmem, ⟨1, _⟩ => ⟨S4096x8192, .f32⟩
  | .local _ .vmem, ⟨2, _⟩ => ⟨S1x1, .f32⟩
  | .local _ .vmem, ⟨3, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Base.lean ====
/-
# The protocol of the exchange

One kernel launch runs on 32 devices. Every device multiplies its 128 rows of the activations by the
whole weight matrix, sends each of the 32 column chunks of the product to the device that owns those
columns, sends its local maximum to everyone, and rescales what it receives. This file fixes the ghost
side of that exchange: the names of the semaphore cells, the rounds each of them goes through, what a
credit on a cell hands over, what each device owes at launch, and the order of the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Pointwise.Index

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

/-! ## The resource algebra -/

/-- The exchange's own rounds; a duty is named by the device that pays it. -/
abbrev UB : Type := URounds (GSem nD τ sig) (Dev nD)
/-- The windows' rounds beside the exchange's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, all semaphores at zero, any generator registers. -/
def s₀ : MemSt nD τ sig (Elt F) := ⟨m, fun _ => 0, ρ⟩

/-! ## Devices -/

/-- The device numbered `n`. -/
def dv (n : ℕ) : Dev nD := (⟨n % 32, Nat.mod_lt _ (by decide)⟩ : Fin 32)
/-- The neighbour of `c` at distance `d + 1`. -/
def nb (d : ℕ) (c : Dev nD) : Dev nD := dv (c.val + d + 1)

theorem dev_lt (c : Dev nD) : c.val < 32 := c.isLt
theorem dv_val (n : ℕ) : (dv n).val = n % 32 := rfl
theorem dv_val_of_lt {n : ℕ} (h : n < 32) : (dv n).val = n := Nat.mod_eq_of_lt h
theorem dv_dev (c : Dev nD) : dv c.val = c := Fin.ext (Nat.mod_eq_of_lt (dev_lt c))
theorem dv_eq_iff {k : ℕ} (h : k < 32) (c : Dev nD) : dv k = c ↔ k = c.val := by
  rw [Fin.ext_iff, dv_val_of_lt h]
theorem nb_val (d : ℕ) (c : Dev nD) : (nb d c).val = (c.val + d + 1) % 32 := rfl
theorem nb_ne {d : ℕ} (h : d < 31) (c : Dev nD) : nb d c ≠ c := fun e => by
  have := congrArg Fin.val e; rw [nb_val] at this; have := dev_lt c; omega

/-! ## Semaphore cells -/

/-- The DMA semaphore numbered `n`. -/
def dq (n : ℕ) : SemLoc sig := .dma (⟨n % 132, Nat.mod_lt _ (by decide)⟩ : Fin 132)

/-- The runtime's barrier semaphore. -/
abbrev barS : Sem sig := (SemArray.scalar (sig.barrier 0 rfl) : Sems sig S_).sem

/-- A device's barrier; the copy of a weight block into slot `s`; the sending and the landing of chunk
    number `k`; the sending and the landing of a maximum. -/
abbrev barC (c : Dev nD) : GSem nD τ sig := ((c : Thread nD τ), .reg barS)
abbrev wC (c : Dev nD) (s : ℕ) : GSem nD τ sig := ((c : Thread nD τ), dq (2 + s))
abbrev sdC (c : Dev nD) (k : ℕ) : GSem nD τ sig := ((c : Thread nD τ), dq (4 + k))
abbrev rdC (c : Dev nD) (s : ℕ) : GSem nD τ sig := ((c : Thread nD τ), dq (36 + s))
abbrev saC (c : Dev nD) (d : ℕ) : GSem nD τ sig := ((c : Thread nD τ), dq (68 + d))
abbrev raC (c : Dev nD) (s : ℕ) : GSem nD τ sig := ((c : Thread nD τ), dq (100 + s))

/-- The kinds of cell. -/
inductive CellKind | none | w | sd | rd | sa | ra | bar
  deriving DecidableEq

/-- The kind of the DMA semaphore numbered `n`, and its number within the kind. -/
def kindOf (n : ℕ) : CellKind × ℕ :=
  if n < 2 then (.none, 0) else if n < 4 then (.w, n - 2) else if n < 36 then (.sd, n - 4)
  else if n < 68 then (.rd, n - 36) else if n < 100 then (.sa, n - 68) else (.ra, n - 100)

/-- The kind of a semaphore. -/
def role : SemLoc sig → CellKind × ℕ
  | .reg _ => (.bar, 0)
  | .dma q => kindOf q.val

theorem role_dq {n : ℕ} (h : n < 132) : role (dq n) = kindOf n := by
  show kindOf (n % 132) = _; rw [Nat.mod_eq_of_lt h]
theorem role_bar : role (.reg barS) = (.bar, 0) := rfl
theorem role_w {s : ℕ} (h : s < 2) : role (dq (2 + s)) = (.w, s) := by
  rw [role_dq (by omega)]; unfold kindOf; rw [if_neg (by omega), if_pos (by omega), Nat.add_sub_cancel_left]
theorem role_sd {s : ℕ} (h : s < 32) : role (dq (4 + s)) = (.sd, s) := by
  rw [role_dq (by omega)]; unfold kindOf
  rw [if_neg (by omega), if_neg (by omega), if_pos (by omega), Nat.add_sub_cancel_left]
theorem role_rd {s : ℕ} (h : s < 32) : role (dq (36 + s)) = (.rd, s) := by
  rw [role_dq (by omega)]; unfold kindOf
  rw [if_neg (by omega), if_neg (by omega), if_neg (by omega), if_pos (by omega), Nat.add_sub_cancel_left]
theorem role_sa {s : ℕ} (h : s < 32) : role (dq (68 + s)) = (.sa, s) := by
  rw [role_dq (by omega)]; unfold kindOf
  rw [if_neg (by omega), if_neg (by omega), if_neg (by omega), if_neg (by omega), if_pos (by omega), Nat.add_sub_cancel_left]
theorem role_ra {s : ℕ} (h : s < 32) : role (dq (100 + s)) = (.ra, s) := by
  rw [role_dq (by omega)]; unfold kindOf
  rw [if_neg (by omega), if_neg (by omega), if_neg (by omega), if_neg (by omega), if_neg (by omega), Nat.add_sub_cancel_left]

/-! ## The slots of the exchanged buffers -/

/-- The elements of slot `n` of a three-axis buffer. -/
def slot (A B C n : ℕ) : Finset (⟨3, ![A, B, C]⟩ : Shape).Idx := Finset.univ.filter fun i => (i 0).val = n

theorem mem_slot {A B C n : ℕ} {i : (⟨3, ![A, B, C]⟩ : Shape).Idx} : i ∈ slot A B C n ↔ (i 0).val = n := by
  simp [slot]

theorem slot_disjoint (A B C : ℕ) {n k : ℕ} (h : n ≠ k) : Disjoint (slot A B C n) (slot A B C k) :=
  Finset.disjoint_left.mpr fun i hi hk => h ((mem_slot.mp hi).symm.trans (mem_slot.mp hk))

/-- The slots cover the buffer. -/
theorem slot_cover (A B C : ℕ) : (Finset.range A).biUnion (slot A B C) = Finset.univ := by
  ext i; simp only [Finset.mem_biUnion, Finset.mem_range, mem_slot, Finset.mem_univ, iff_true]
  exact ⟨(i 0).val, (i 0).isLt, rfl⟩

/-- The one-slot rectangle's elements. -/
theorem slot_rect {A B C : ℕ} (n : ℕ) (inb) :
    (Rect.unit (s := (⟨3, ![A, B, C]⟩ : Shape)) ![n, 0, 0] (⟨3, ![1, B, C]⟩ : Shape).size inb).set = slot A B C n := by
  ext i
  rw [Rect.mem_set_unit, mem_slot]
  constructor
  · intro h
    have h0 := h 0
    have : n ≤ (i 0).val ∧ (i 0).val < n + 1 := h0
    omega
  · intro h a
    have hi := (i a).isLt
    match a with
    | 0 => show n ≤ (i 0).val ∧ (i 0).val < n + 1; omega
    | 1 => show 0 ≤ (i 1).val ∧ (i 1).val < 0 + B; exact ⟨Nat.zero_le _, by rw [Nat.zero_add]; exact hi⟩
    | 2 => show 0 ≤ (i 2).val ∧ (i 2).val < 0 + C; exact ⟨Nat.zero_le _, by rw [Nat.zero_add]; exact hi⟩

/-! ## Contents -/

/-- The activations a device starts from, as its window stages them. -/
def xstg (c : Dev nD) : (cc0_stg0_0 : Ref sig .tc).ty.Contents (Elt F) :=
  (win0_0.blk (0 : Fin 1)).view.read (Elt F) ((s₀ m ρ).mem ((c : Thread nD τ).loc main_arg0))
/-- The weights. -/
def wmat (c : Dev nD) : (main_arg1 : Ref sig .tc).ty.Contents (Elt F) := m ((c : Thread nD τ).loc main_arg1)

/-- The activations rounded to bfloat16. -/
def xbf (c : Dev nD) : FVec F S128x4096 .bf16 := k0_pay1 (xstg m ρ c)

/-- Weight block `b`: columns `1024 b` to `1024 b + 1023`, as one slot. -/
def WV (c : Dev nD) (b : ℕ) : Vec F S1x4096x1024 .f32 := fun j =>
  wmat m c (ix2 (j 1) (⟨1024 * (b % 8) + (j 2).val, by have h : (j 2).val < 1024 := (j 2).isLt; omega⟩ : Fin 8192))
/-- The weight buffer with block `b` in every slot. -/
def WB (c : Dev nD) (b : ℕ) : Vec F S2x4096x1024 .f32 := fun i => WV m c b (ix3 (0 : Fin 1) (i 1) (i 2))

/-- Column chunk `k` of device `c`'s product. -/
def CH (c : Dev nD) (k : ℕ) : Vec F S1x128x256 .bf16 :=
  match k % 4 with
  | 0 => k0_pay5 (xbf m ρ c) (WV m c (k / 4))
  | 1 => k0_pay7 (xbf m ρ c) (WV m c (k / 4))
  | 2 => k0_pay9 (k0_pay4 (xbf m ρ c) (WV m c (k / 4)))
  | _ => k0_pay11 (k0_pay4 (xbf m ρ c) (WV m c (k / 4)))

/-- The chunk buffer once all chunks are made. -/
def YB (c : Dev nD) : Vec F S32x128x256 .bf16 := fun i => CH m ρ c (i 0).val (ix3 (0 : Fin 1) (i 1) (i 2))
/-- The landing buffer once all chunks have arrived: slot `s` holds device `s`'s chunk `c`. -/
def RB (c : Dev nD) : Vec F S32x128x256 .bf16 := fun i => CH m ρ (dv (i 0).val) c.val (ix3 (0 : Fin 1) (i 1) (i 2))

/-- The running maximum after the first `b` weight blocks. -/
def mx (c : Dev nD) : ℕ → F .f32
  | 0 => Scalar.ofBits .f32 0x00000000#32
  | 1 => k0_pay3 (xbf m ρ c) (WV m c 0)
  | n + 2 => k0_pay14 (xbf m ρ c) (mx c (n + 1)) (WV m c (n + 1))

/-- The tile a device sends to all others: its maximum, everywhere. -/
def AM (c : Dev nD) : Vec F S8x128 .f32 := k0_pay93 (mx m ρ c 8)
/-- The gathered maxima: slot `s` holds device `s`'s tile. -/
def GB : Vec F S32x8x128 .f32 := fun i => AM m ρ (dv (i 0).val) (ix2 (i 1) (i 2))

/-- What the kernel reads from landing slot `s`. -/
def RV (c : Dev nD) (s : ℕ) : Vec F S1x128x256 .bf16 := CH m ρ (dv s) c.val
/-- Row block `s` of device `c`'s result. -/
def OC (c : Dev nD) (s : ℕ) : FVec F S128x256 .f32 := k0_pay102 (k0_pay96 (GB m ρ)) (k0_pay97 (GB m ρ)) (RV m ρ c s)
/-- Device `c`'s result. -/
def outB (c : Dev nD) : Vec F S4096x256 .f32 := fun i =>
  OC m ρ c ((i 0).val / 128) (ix2 (⟨(i 0).val % 128, Nat.mod_lt _ (by decide)⟩ : Fin 128) (i 1))

/-! ## Points-to assertions by slot -/

abbrev wL (c : Dev nD) : Loc nD τ sig := (c : Thread nD τ).loc cc0_scratch0
abbrev yL (c : Dev nD) : Loc nD τ sig := (c : Thread nD τ).loc cc0_scratch1
abbrev rL (c : Dev nD) : Loc nD τ sig := (c : Thread nD τ).loc cc0_scratch2
abbrev aL (c : Dev nD) : Loc nD τ sig := (c : Thread nD τ).loc cc0_scratch3
abbrev gL (c : Dev nD) : Loc nD τ sig := (c : Thread nD τ).loc cc0_scratch4

def wPts (c : Dev nD) (s : ℕ) (f : Buf (Elt F) (wL c)) : sProp 𝕄 := wL c ↦[slot 2 4096 1024 s]{fullShare} f
def yPts (c : Dev nD) (k : ℕ) (f : Buf (Elt F) (yL c)) : sProp 𝕄 := yL c ↦[slot 32 128 256 k]{fullShare} f
def rPts (c : Dev nD) (s : ℕ) (f : Buf (Elt F) (rL c)) : sProp 𝕄 := rL c ↦[slot 32 128 256 s]{fullShare} f
def gPts (c : Dev nD) (s : ℕ) (f : Buf (Elt F) (gL c)) : sProp 𝕄 := gL c ↦[slot 32 8 128 s]{fullShare} f
/-- A share of the tile a device sends. -/
def aPts (c : Dev nD) (q : PosShare TreeShare) (f : Buf (Elt F) (aL c)) : sProp 𝕄 := aL c ↦{q} f

omit [FloatOps F] in
instance wPts_storable (c : Dev nD) (s) (f) : BI.Storable (upEmb : UEmb _ 𝕄) (wPts (F := F) c s f) := by unfold wPts; infer_instance
omit [FloatOps F] in
instance yPts_storable (c : Dev nD) (s) (f) : BI.Storable (upEmb : UEmb _ 𝕄) (yPts (F := F) c s f) := by unfold yPts; infer_instance
omit [FloatOps F] in
instance rPts_storable (c : Dev nD) (s) (f) : BI.Storable (upEmb : UEmb _ 𝕄) (rPts (F := F) c s f) := by unfold rPts; infer_instance
omit [FloatOps F] in
instance gPts_storable (c : Dev nD) (s) (f) : BI.Storable (upEmb : UEmb _ 𝕄) (gPts (F := F) c s f) := by unfold gPts; infer_instance
omit [FloatOps F] in
instance aPts_storable (c : Dev nD) (s) (f) : BI.Storable (upEmb : UEmb _ 𝕄) (aPts (F := F) c s f) := by unfold aPts; infer_instance

/-! ## The credits of the three kinds of transfer -/

abbrev wM : Memref sig .tc .vmem S2x4096x1024 .f32 := Memref.whole cc0_scratch0
abbrev yM : Memref sig .tc .vmem S32x128x256 .bf16 := Memref.whole cc0_scratch1
abbrev rM : Memref sig .tc .vmem S32x128x256 .bf16 := Memref.whole cc0_scratch2
abbrev aM : Memref sig .tc .vmem S8x128 .f32 := Memref.whole cc0_scratch3
abbrev gM : Memref sig .tc .vmem S32x8x128 .f32 := Memref.whole cc0_scratch4
abbrev xM : Memref sig .tc .vmem S128x4096 .f32 := Memref.whole cc0_stg0_0
abbrev oM : Memref sig .tc .vmem S4096x256 .f32 := Memref.whole cc0_stg1_0
abbrev hM : Memref sig .tc .hbm S4096x8192 .f32 := Memref.whole main_arg1

@[irreducible] def NW : ℕ := RefSig.tileCredit S4096x1024 .f32
@[irreducible] def ND : ℕ := RefSig.tileCredit S128x256 .bf16
@[irreducible] def NA : ℕ := RefSig.tileCredit S8x128 .f32
theorem credit_w {off : Fin 3 → ℕ} {inb : ∀ a, off a + S1x4096x1024.size a ≤ S2x4096x1024.size a} {i2 sq} :
    ((wM.slice (Rect.unit (s := S2x4096x1024) off S1x4096x1024.size inb) i2).squeeze S4096x1024 sq).view.dmaCredit = NW := by
  unfold NW; rfl
theorem credit_y {off : Fin 3 → ℕ} {inb : ∀ a, off a + S1x128x256.size a ≤ S32x128x256.size a} {i2 sq} :
    ((yM.slice (Rect.unit (s := S32x128x256) off S1x128x256.size inb) i2).squeeze S128x256 sq).view.dmaCredit = ND := by
  unfold ND; rfl
theorem credit_r {off : Fin 3 → ℕ} {inb : ∀ a, off a + S1x128x256.size a ≤ S32x128x256.size a} {i2 sq} :
    ((rM.slice (Rect.unit (s := S32x128x256) off S1x128x256.size inb) i2).squeeze S128x256 sq).view.dmaCredit = ND := by
  unfold ND; rfl
theorem credit_g {off : Fin 3 → ℕ} {inb : ∀ a, off a + S1x8x128.size a ≤ S32x8x128.size a} {i2 sq} :
    ((gM.slice (Rect.unit (s := S32x8x128) off S1x8x128.size inb) i2).squeeze S8x128 sq).view.dmaCredit = NA := by
  unfold NA; rfl
theorem credit_a : aM.view.dmaCredit = NA := by unfold NA; rfl
theorem NW_pos : 0 < NW := by unfold NW; exact RefSig.tileCredit_pos _ _ (by decide)
theorem ND_pos : 0 < ND := by unfold ND; exact RefSig.tileCredit_pos _ _ (by decide)
theorem NA_pos : 0 < NA := by unfold NA; exact RefSig.tileCredit_pos _ _ (by decide)

/-! ## The schedule -/

/-- Who pays round `r` of a cell of device `c`. A barrier is paid by every other device; a sending cell by its
    own device; a landing cell by the device whose slot it is; a weight slot is filled four times. -/
def duty (c : Dev nD) (r : ℕ) : CellKind × ℕ → Finset (Dev nD)
  | (.bar, _) => if r = 0 then Finset.univ.erase c else ∅
  | (.w, _) => if r < 4 then {c} else ∅
  | (.sd, k) => if r = 0 ∧ k ≠ c.val then {c} else ∅
  | (.rd, s) => if r = 0 ∧ s ≠ c.val then {dv s} else ∅
  | (.sa, d) => if r = 0 ∧ d < 31 then {c} else ∅
  | (.ra, s) => if r = 0 ∧ s ≠ c.val then {dv s} else ∅
  | (.none, _) => ∅

/-- The amount each pays. -/
def amt : CellKind → ℕ
  | .bar => 1 | .w => NW | .sd => ND | .rd => ND | .sa => NA | .ra => NA | .none => 1

theorem amt_pos (k : CellKind) : 0 < amt k := by
  cases k <;> first | exact Nat.one_pos | exact NW_pos | exact ND_pos | exact NA_pos

/-- What it hands over. A barrier signal of device `d` to `c` gives `c` slot `c` of `d`'s two landing buffers. -/
def pay (c : Dev nD) (r : ℕ) (d : Dev nD) : CellKind × ℕ → sProp 𝕄
  | (.bar, _) => iprop((∃ f, rPts d c.val f) ∗ ∃ f, gPts d c.val f)
  | (.w, s) => wPts c s (WB m c (2 * r + s))
  | (.sd, k) => yPts c k (YB m ρ c)
  | (.rd, s) => rPts c s (RB m ρ c)
  | (.sa, k) => aPts c (shareTokN fullShare k) (AM m ρ c)
  | (.ra, s) => gPts c s (GB m ρ)
  | (.none, _) => iprop(emp)

instance pay_storable (c : Dev nD) (r : ℕ) (d : Dev nD) (k : CellKind × ℕ) :
    BI.Storable (upEmb : UEmb _ 𝕄) (pay (F := F) m ρ c r d k) := by
  obtain ⟨k, n⟩ := k
  cases k <;> (unfold pay; infer_instance)

def Rd : Rounds.Schedule (GSem nD τ sig) (Dev nD) 𝕄 where
  duties g r := duty g.1.1 r (role g.2)
  unitless _ := False
  amount g _ _ := amt (role g.2).1
  payload g r d := pay m ρ g.1.1 r d (role g.2)
  amount_pos g _ _ _ := amt_pos _

instance Rd_payload_storable (g : GSem nD τ sig) (r : ℕ) (d : Dev nD) :
    BI.Storable (upEmb : UEmb _ 𝕄) ((Rd (F := F) m ρ).payload g r d) :=
  pay_storable m ρ g.1.1 r d (role g.2)

theorem duties_eq (c : Dev nD) (sm : SemLoc sig) (r : ℕ) :
    (Rd (F := F) m ρ).duties ((c : Thread nD τ), sm) r = duty c r (role sm) := rfl
theorem amount_eq (c : Dev nD) (sm : SemLoc sig) (r : ℕ) (d : Dev nD) :
    (Rd (F := F) m ρ).amount ((c : Thread nD τ), sm) r d = amt (role sm).1 := rfl
theorem payload_eq (c : Dev nD) (sm : SemLoc sig) (r : ℕ) (d : Dev nD) :
    (Rd (F := F) m ρ).payload ((c : Thread nD τ), sm) r d = pay m ρ c r d (role sm) := rfl

/-- What a round of a cell expects: the number of its duties times the amount. -/
theorem expect_eq (c : Dev nD) (sm : SemLoc sig) (r : ℕ) :
    (Rd (F := F) m ρ).expect ((c : Thread nD τ), sm) r = (duty c r (role sm)).card * amt (role sm).1 := by
  unfold Schedule.expect Schedule.amountOf
  rw [Finset.sum_congr rfl fun d _ => amount_eq m ρ c sm r d, Finset.sum_const, smul_eq_mul, duties_eq]

theorem expect_one {c : Dev nD} {sm : SemLoc sig} {r : ℕ} {d : Dev nD} (h : duty c r (role sm) = {d}) :
    0 + amt (role sm).1 = (Rd (F := F) m ρ).expect ((c : Thread nD τ), sm) r := by
  rw [expect_eq, h, Finset.card_singleton, Nat.one_mul, Nat.zero_add]

/-- The payload of a round with one duty. -/
theorem rest_one {c : Dev nD} {sm : SemLoc sig} {r : ℕ} {d : Dev nD} (h : duty c r (role sm) = {d}) :
    bigSep ((Rd (F := F) m ρ).duties ((c : Thread nD τ), sm) r \ ∅) (fun d => (Rd (F := F) m ρ).payload ((c : Thread nD τ), sm) r d)
      = pay m ρ c r d (role sm) := by
  rw [Finset.sdiff_empty, duties_eq, h, bigSep_singleton, payload_eq]

theorem duty_w (c : Dev nD) {r s : ℕ} (h : r < 4) (hs : s < 2) : duty c r (role (dq (2 + s))) = {c} := by
  rw [role_w hs]; exact if_pos h
theorem duty_sd (c : Dev nD) {k : ℕ} (hk : k < 32) (h : k ≠ c.val) : duty c 0 (role (dq (4 + k))) = {c} := by
  rw [role_sd hk]; exact if_pos ⟨rfl, h⟩
theorem duty_rd (c : Dev nD) {k : ℕ} (hk : k < 32) (h : k ≠ c.val) : duty c 0 (role (dq (36 + k))) = {dv k} := by
  rw [role_rd hk]; exact if_pos ⟨rfl, h⟩
theorem duty_sa (c : Dev nD) {d : ℕ} (hd : d < 31) : duty c 0 (role (dq (68 + d))) = {c} := by
  rw [role_sa (by omega)]; exact if_pos ⟨rfl, hd⟩
theorem duty_ra (c : Dev nD) {k : ℕ} (hk : k < 32) (h : k ≠ c.val) : duty c 0 (role (dq (100 + k))) = {dv k} := by
  rw [role_ra hk]; exact if_pos ⟨rfl, h⟩
theorem duty_bar (c : Dev nD) : duty c 0 (role (.reg barS)) = Finset.univ.erase c := by
  rw [role_bar]; unfold duty; exact if_pos rfl

/-- No cell has a duty past its last round. -/
theorem duty_done (c : Dev nD) {k : CellKind × ℕ} {R : ℕ} (h : 4 ≤ R ∨ (1 ≤ R ∧ k.1 ≠ .w)) : ∀ r, R ≤ r → duty c r k = ∅ := by
  obtain ⟨k, n⟩ := k
  intro r hr
  cases k <;> simp only [duty]
  case w => rw [if_neg]; rcases h with h | h; · omega
            · exact absurd rfl h.2
  all_goals
    first
    | rw [if_neg]
      intro h0
      rcases h with h | h <;> omega

/-! ## What a device owes at launch, and the order of the waits -/

/-- What device `c` still owes: the maxima from the `a`-th neighbour on, the chunks from the `b`-th device on, the barrier
    signals from the `k`-th neighbour on. -/
def Od (c : Dev nD) (a b k : ℕ) : CellTallies nD τ sig Unit :=
  (∑ d ∈ Finset.Ico a 31, tallyAt (raC (nb d c) c.val) () NA)
  + (∑ j ∈ Finset.Ico b 32, if j = c.val then 0 else tallyAt (rdC (dv j) c.val) () ND)
  + ∑ d ∈ Finset.Ico k 31, tallyAt (barC (nb d c)) () 1

/-- A sum over a run of numbers, its first term last. -/
theorem sum_first {a b : ℕ} (h : a < b) (f : ℕ → CellTallies nD τ sig Unit) :
    ∑ i ∈ Finset.Ico a b, f i = (∑ i ∈ Finset.Ico (a + 1) b, f i) + f a := by
  rw [show Finset.Ico a b = insert a (Finset.Ico (a + 1) b) by ext x; simp only [Finset.mem_Ico, Finset.mem_insert]; omega,
    Finset.sum_insert (by rw [Finset.mem_Ico]; omega), add_comm]

theorem Od_bar (c : Dev nD) (a b : ℕ) {k : ℕ} (h : k < 31) : Od c a b k = Od c a b (k + 1) + tallyAt (barC (nb k c)) () 1 := by
  unfold Od; rw [sum_first h, ← add_assoc]
theorem Od_rd (c : Dev nD) (a k : ℕ) {b : ℕ} (h : b < 32) (hb : b ≠ c.val) :
    Od c a b k = Od c a (b + 1) k + tallyAt (rdC (dv b) c.val) () ND := by
  unfold Od; rw [sum_first h, if_neg hb, ← add_assoc, add_right_comm]
theorem Od_rd_self (c : Dev nD) (a k : ℕ) {b : ℕ} (h : b < 32) (hb : b = c.val) : Od c a b k = Od c a (b + 1) k := by
  unfold Od; rw [sum_first h, if_pos hb, add_zero]
theorem Od_ra (c : Dev nD) (b k : ℕ) {a : ℕ} (h : a < 31) : Od c a b k = Od c (a + 1) b k + tallyAt (raC (nb a c) c.val) () NA := by
  unfold Od; rw [sum_first h, add_right_comm (∑ d ∈ Finset.Ico (a + 1) 31, _), add_right_comm]
theorem Od_done (c : Dev nD) : Od c 31 32 31 = 0 := by
  unfold Od; simp only [Finset.Ico_self, Finset.sum_empty, add_zero]

def L (g : GSem nD τ sig) : Finset Unit := if g.1.2 = .tc then {()} else ∅
/-- Barriers are waited on at level 1, landings at level 2, everything else at level 0. -/
def lvl : CellKind → ℕ
  | .bar => 1 | .rd => 2 | .ra => 2 | _ => 0
def lv (g : GSem nD τ sig) (_ : Unit) : ℕ := lvl (role g.2).1

theorem L_of_ne (g : GSem nD τ sig) (h : g.1.2 ≠ .tc) : L g = ∅ := if_neg h
theorem L_tc (c : Dev nD) (sm : SemLoc sig) : L ((c : Thread nD τ), sm) = {()} := if_pos rfl

/-- Everything owed is at a level above `l`. -/
def Above (l : ℕ) (O : CellTallies nD τ sig Unit) : Prop := ∀ g u, 0 < O g u → g.1.2 = .tc ∧ l < lv g u

theorem Above.zero (l : ℕ) : Above l 0 := fun g u h => absurd h (Nat.lt_irrefl 0)
theorem Above.add {l : ℕ} {O O' : CellTallies nD τ sig Unit} (h : Above l O) (h' : Above l O') : Above l (O + O') := fun g u hg => by
  rw [Pi.add_apply, Finsupp.add_apply] at hg
  rcases Nat.eq_zero_or_pos (O g u) with h0 | h0
  · exact h' g u (by omega)
  · exact h g u h0
theorem Above.sum {l : ℕ} {s : Finset ℕ} {O : ℕ → CellTallies nD τ sig Unit} (h : ∀ i ∈ s, Above l (O i)) : Above l (∑ i ∈ s, O i) := by
  induction s using Finset.induction_on with
  | empty => rw [Finset.sum_empty]; exact Above.zero l
  | insert a s ha ih =>
    rw [Finset.sum_insert ha]
    exact (h a (Finset.mem_insert_self _ _)).add (ih fun i hi => h i (Finset.mem_insert_of_mem hi))
theorem Above.tally {l : ℕ} (c : Dev nD) (sm : SemLoc sig) (n : ℕ) (h : l < lvl (role sm).1) :
    Above l (tallyAt ((c : Thread nD τ), sm) () n) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)

theorem Above.ra (c : Dev nD) (a : ℕ) {l : ℕ} (hl : l < 2) : Above l (∑ d ∈ Finset.Ico a 31, tallyAt (raC (nb d c) c.val) () NA) :=
  Above.sum fun d _ => Above.tally _ _ _ (by rw [role_ra (dev_lt c)]; exact hl)
theorem Above.rd (c : Dev nD) (b : ℕ) {l : ℕ} (hl : l < 2) :
    Above l (∑ j ∈ Finset.Ico b 32, if j = c.val then 0 else tallyAt (rdC (dv j) c.val) () ND) :=
  Above.sum fun j _ => by
    split
    · exact Above.zero l
    · exact Above.tally _ _ _ (by rw [role_rd (dev_lt c)]; exact hl)

theorem above_start (c : Dev nD) (a b k : ℕ) : Above 0 (Od c a b k) :=
  ((Above.ra c a (by decide)).add (Above.rd c b (by decide))).add
    (Above.sum fun d _ => Above.tally _ _ _ (by rw [role_bar]; exact Nat.one_pos))
theorem above_bar (c : Dev nD) (a b : ℕ) : Above 1 (Od c a b 31) := by
  refine ((Above.ra c a (by decide)).add (Above.rd c b (by decide))).add ?_
  rw [Finset.Ico_self, Finset.sum_empty]; exact Above.zero 1

omit [FloatOps F] in
/-- A device may wait on a cell below everything it owes. -/
theorem mayWait (c : Dev nD) (sm : SemLoc sig) {O : CellTallies nD τ sig Unit} {l : ℕ} (hl : lvl (role sm).1 ≤ l) (h : Above l O) :
    (levAts L lv : sProp 𝕄) ⊢ MayWait (c : Thread nD τ) sm () O :=
  MayOwe.of_cut (L := L) (lev := lv) l
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hl)
    (fun g u hg => (h g u hg).2)

end Cert.Exchange
-- ==== Proof.Views.lean ====
/-
# The elements the kernel's memory operations touch

The exchanged buffers are addressed one slot at a time: a rectangle of one slot, sometimes with the leading axis of length
one dropped. This file says which elements and which semaphore such an operand names, and what is read or written there.
-/
module

public import proofs.«01_k».proof.Proof.Base
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores -/

/-- One semaphore of a row of consecutive ones. -/
theorem slice_sem {n base : ℕ} {hn : base + (⟨1, ![n]⟩ : Shape).numel ≤ 132} {off : Fin 1 → ℕ} {inb} {sq} (s : ℕ) (hs : base + s < 132) (h : off = ![s]) :
    (SemLoc.dma (((SemArray.consecutive base (⟨1, ![n]⟩ : Shape) hn : DmaSems sig ⟨1, ![n]⟩).slice
      (Rect.unit (s := (⟨1, ![n]⟩ : Shape)) off S1.size inb)).squeeze S_ sq).sem : SemLoc sig) = dq (base + s) := by
  subst h
  unfold dq
  refine congrArg SemLoc.dma (Fin.ext ?_)
  refine Eq.trans ?_ (Nat.mod_eq_of_lt hs).symm
  unfold SemArray.sem SemArray.squeeze SemArray.slice SemArray.consecutive
  show base + ((⟨1, ![n]⟩ : Shape).rowMajor ((Rect.unit (s := (⟨1, ![n]⟩ : Shape)) ![s] S1.size inb).emb _)).val = base + s
  rw [Shape.rowMajor_val_one]
  generalize Shape.reshapeEquiv _ _ = j
  have h0 : (j 0).val = 0 := by have : (j 0).val < 1 := (j 0).isLt; omega
  show base + (s + 1 * (j 0).val) = base + s
  omega

/-! ## Places in a slot -/

theorem emb_slot {A B C : ℕ} (n : ℕ) (hn : n < A) (inb) (j : (⟨3, ![1, B, C]⟩ : Shape).Idx) :
    (Rect.unit (s := (⟨3, ![A, B, C]⟩ : Shape)) ![n, 0, 0] (⟨3, ![1, B, C]⟩ : Shape).size inb).emb j = ix3 (⟨n, hn⟩ : Fin A) (j 1) (j 2) := by
  have h0 : (j 0).val = 0 := by have : (j 0).val < 1 := (j 0).isLt; omega
  funext a
  apply Fin.ext
  match a with
  | 0 => show n + 1 * (j 0).val = n; omega
  | 1 => show 0 + 1 * (j 1).val = (j 1).val; omega
  | 2 => show 0 + 1 * (j 2).val = (j 2).val; omega

theorem eta_slot {B C : ℕ} (j : (⟨3, ![1, B, C]⟩ : Shape).Idx) : ix3 (0 : Fin 1) (j 1) (j 2) = j := by
  have h0 : (j 0).val = 0 := by have : (j 0).val < 1 := (j 0).isLt; omega
  funext a
  apply Fin.ext
  match a with
  | 0 => exact h0.symm
  | 1 => rfl
  | 2 => rfl

theorem eta_tile {B C : ℕ} (j : (⟨2, ![B, C]⟩ : Shape).Idx) : ix2 (j 0) (j 1) = j := by
  funext a
  match a with
  | 0 => rfl
  | 1 => rfl

theorem cons_slot {B C : ℕ} (h : (⟨2, ![B, C]⟩ : Shape).numel = (⟨3, ![1, B, C]⟩ : Shape).numel) (j : (⟨2, ![B, C]⟩ : Shape).Idx) :
    Shape.reshapeEquiv h j = ix3 (0 : Fin 1) (j 0) (j 1) := by
  refine (Shape.reshapeEquiv_cons_one h j).trans ?_
  funext a
  match a with
  | 0 => rfl
  | 1 => rfl
  | 2 => rfl

/-! ## Writing through a view -/

omit [FloatOps F] in
/-- Writing what `g` holds under a view leaves `g` under the view. -/
theorem write_read_on {κ : Kind} {sp : Space} {s : Shape} {e : EltTy} (v : View sig κ sp s e) (f g : v.ty.Contents (Elt F)) :
    ∀ i ∈ v.set, v.write (Elt F) f (v.read (Elt F) g) Finset.univ i = g i := fun i hi => by
  rw [View.write_read_eq_piecewise]
  exact Finset.piecewise_eq_of_mem _ _ _ hi

/-! ## The chunk buffer -/

section Chunks
variable {off : Fin 3 → ℕ} {inb : ∀ a, off a + S1x128x256.size a ≤ S32x128x256.size a} {k : ℕ}

theorem y_set (h : off = ![k, 0, 0]) {i2 sq} :
    ((yM.slice (Rect.unit (s := S32x128x256) off S1x128x256.size inb) i2).squeeze S128x256 sq).view.set = slot 32 128 256 k := by
  subst h
  exact (View.set_reshape _ _).trans ((View.set_slice_whole _ _).trans (slot_rect k _))
theorem r_set (h : off = ![k, 0, 0]) {i2 sq} :
    ((rM.slice (Rect.unit (s := S32x128x256) off S1x128x256.size inb) i2).squeeze S128x256 sq).view.set = slot 32 128 256 k := by
  subst h
  exact (View.set_reshape _ _).trans ((View.set_slice_whole _ _).trans (slot_rect k _))
theorem y_acc (h : off = ![k, 0, 0]) : (yM.access (Rect.unit (s := S32x128x256) off S1x128x256.size inb)).set = slot 32 128 256 k := by
  subst h
  exact (View.set_slice_whole _ _).trans (slot_rect k _)
theorem r_acc (h : off = ![k, 0, 0]) : (rM.access (Rect.unit (s := S32x128x256) off S1x128x256.size inb)).set = slot 32 128 256 k := by
  subst h
  exact (View.set_slice_whole _ _).trans (slot_rect k _)

/-- Chunk `k` of the chunk buffer, read as one slot. -/
theorem y_read (h : off = ![k, 0, 0]) (hk : k < 32) (c : Dev nD) :
    (yM.access (Rect.unit (s := S32x128x256) off S1x128x256.size inb)).read (Elt F) (YB m ρ c) = CH m ρ c k := by
  subst h
  funext j
  show YB m ρ c ((Rect.unit (s := S32x128x256) ![k, 0, 0] S1x128x256.size inb).emb j) = CH m ρ c k j
  rw [emb_slot k hk inb j]
  exact congrArg (CH m ρ c k) (eta_slot j)

/-- Slot `s` of the landing buffer, read as one slot. -/
theorem r_read (h : off = ![k, 0, 0]) (hk : k < 32) (c : Dev nD) :
    (rM.access (Rect.unit (s := S32x128x256) off S1x128x256.size inb)).read (Elt F) (RB m ρ c) = RV m ρ c k := by
  subst h
  funext j
  show RB m ρ c ((Rect.unit (s := S32x128x256) ![k, 0, 0] S1x128x256.size inb).emb j) = CH m ρ (dv k) c.val j
  rw [emb_slot k hk inb j]
  exact congrArg (CH m ρ (dv k) c.val) (eta_slot j)

/-- A chunk stored in its slot. -/
theorem y_store (h : off = ![k, 0, 0]) (hk : k < 32) (c : Dev nD) (f) :
    ∀ i ∈ (yM.access (Rect.unit (s := S32x128x256) off S1x128x256.size inb)).set, (yM.access (Rect.unit (s := S32x128x256) off S1x128x256.size inb)).write (Elt F) f (CH m ρ c k) Finset.univ i = YB m ρ c i := by
  intro i hi
  rw [← y_read (inb := inb) m ρ h hk c]
  exact write_read_on _ _ _ i hi

/-- The device's own chunk stored in its own landing slot. -/
theorem r_store (h : off = ![k, 0, 0]) (hk : k < 32) (c : Dev nD) (hc : k = c.val) (f) :
    ∀ i ∈ (rM.access (Rect.unit (s := S32x128x256) off S1x128x256.size inb)).set, (rM.access (Rect.unit (s := S32x128x256) off S1x128x256.size inb)).write (Elt F) f (CH m ρ c k) Finset.univ i = RB m ρ c i := by
  intro i hi
  have e : CH m ρ c k = RV m ρ c k := by unfold RV; rw [hc, dv_dev]
  rw [e, ← r_read (inb := inb) m ρ h hk c]
  exact write_read_on _ _ _ i hi

/-- Chunk `n` of device `c` lands in slot `c` of device `n`. -/
theorem y_land {off' : Fin 3 → ℕ} {inb' : ∀ a, off' a + S1x128x256.size a ≤ S32x128x256.size a} {c n : Dev nD}
    (h : off = ![n.val, 0, 0]) (h' : off' = ![c.val, 0, 0]) {i2 sq i2' sq'} (f) :
    ∀ i ∈ ((rM.slice (Rect.unit (s := S32x128x256) off' S1x128x256.size inb') i2').squeeze S128x256 sq').view.set,
      ((rM.slice (Rect.unit (s := S32x128x256) off' S1x128x256.size inb') i2').squeeze S128x256 sq').view.write (Elt F) f
        (((yM.slice (Rect.unit (s := S32x128x256) off S1x128x256.size inb) i2).squeeze S128x256 sq).view.read (Elt F) (YB m ρ c)) Finset.univ i
        = RB m ρ n i := by
  intro i hi
  have e : ((yM.slice (Rect.unit (s := S32x128x256) off S1x128x256.size inb) i2).squeeze S128x256 sq).view.read (Elt F) (YB m ρ c)
      = ((rM.slice (Rect.unit (s := S32x128x256) off' S1x128x256.size inb') i2').squeeze S128x256 sq').view.read (Elt F) (RB m ρ n) := by
    subst h h'
    funext j
    show YB m ρ c ((Rect.unit (s := S32x128x256) ![n.val, 0, 0] S1x128x256.size inb).emb (Shape.reshapeEquiv _ j))
      = RB m ρ n ((Rect.unit (s := S32x128x256) ![c.val, 0, 0] S1x128x256.size inb').emb (Shape.reshapeEquiv _ j))
    rw [emb_slot n.val (dev_lt n) inb, emb_slot c.val (dev_lt c) inb']
    show CH m ρ c n.val _ = CH m ρ (dv c.val) n.val _
    rw [dv_dev]
    rfl
  rw [e]
  exact write_read_on _ _ _ i hi

end Chunks

/-! ## The gathered maxima -/

section Maxima
variable {off : Fin 3 → ℕ} {inb : ∀ a, off a + S1x8x128.size a ≤ S32x8x128.size a} {k : ℕ}

theorem g_set (h : off = ![k, 0, 0]) {i2 sq} :
    ((gM.slice (Rect.unit (s := S32x8x128) off S1x8x128.size inb) i2).squeeze S8x128 sq).view.set = slot 32 8 128 k := by
  subst h
  exact (View.set_reshape _ _).trans ((View.set_slice_whole _ _).trans (slot_rect k _))
theorem g_acc (h : off = ![k, 0, 0]) : (gM.access (Rect.unit (s := S32x8x128) off S1x8x128.size inb)).set = slot 32 8 128 k := by
  subst h
  exact (View.set_slice_whole _ _).trans (slot_rect k _)

/-- Device `c`'s tile lands in slot `c`. -/
theorem g_land {c n : Dev nD} (h : off = ![c.val, 0, 0]) {i2 sq} (f) :
    ∀ i ∈ ((gM.slice (Rect.unit (s := S32x8x128) off S1x8x128.size inb) i2).squeeze S8x128 sq).view.set,
      ((gM.slice (Rect.unit (s := S32x8x128) off S1x8x128.size inb) i2).squeeze S8x128 sq).view.write (Elt F) f
        (aM.view.read (Elt F) (AM m ρ c)) Finset.univ i = GB m ρ i := by
  intro i hi
  have e : aM.view.read (Elt F) (AM m ρ c)
      = ((gM.slice (Rect.unit (s := S32x8x128) off S1x8x128.size inb) i2).squeeze S8x128 sq).view.read (Elt F) (GB m ρ) := by
    subst h
    funext j
    show AM m ρ c j = GB m ρ ((Rect.unit (s := S32x8x128) ![c.val, 0, 0] S1x8x128.size inb).emb (Shape.reshapeEquiv _ j))
    rw [emb_slot c.val (dev_lt c) inb, cons_slot]
    show _ = AM m ρ (dv c.val) (ix2 (j 0) (j 1))
    rw [dv_dev]
    exact congrArg (AM m ρ c) (eta_tile j).symm
  rw [e]
  exact write_read_on _ _ _ i hi

/-- Its own tile stored in its own slot. -/
theorem g_store {c : Dev nD} (h : off = ![c.val, 0, 0]) (f) :
    ∀ i ∈ (gM.access (Rect.unit (s := S32x8x128) off S1x8x128.size inb)).set,
      (gM.access (Rect.unit (s := S32x8x128) off S1x8x128.size inb)).write (Elt F) f (k0_pay94 (AM m ρ c)) Finset.univ i = GB m ρ i := by
  intro i hi
  have e : k0_pay94 (AM m ρ c) = (gM.access (Rect.unit (s := S32x8x128) off S1x8x128.size inb)).read (Elt F) (GB m ρ) := by
    subst h
    funext j
    show shapeCast S1x8x128 (AM m ρ c) _ j = GB m ρ ((Rect.unit (s := S32x8x128) ![c.val, 0, 0] S1x8x128.size inb).emb j)
    rw [emb_slot c.val (dev_lt c) inb]
    show _ = AM m ρ (dv c.val) (ix2 (j 1) (j 2))
    rw [dv_dev]
    refine (shapeCast_addUnit_apply ![8, 128] (AM m ρ c) _ j).trans (congrArg (AM m ρ c) ?_)
    funext a
    match a with
    | 0 => rfl
    | 1 => rfl
  rw [e]
  exact write_read_on _ _ _ i hi

end Maxima

/-! ## The weight blocks -/

section Weights
variable {off : Fin 3 → ℕ} {inb : ∀ a, off a + S1x4096x1024.size a ≤ S2x4096x1024.size a} {s : ℕ}

theorem w_set (h : off = ![s, 0, 0]) {i2 sq} :
    ((wM.slice (Rect.unit (s := S2x4096x1024) off S1x4096x1024.size inb) i2).squeeze S4096x1024 sq).view.set = slot 2 4096 1024 s := by
  subst h
  exact (View.set_reshape _ _).trans ((View.set_slice_whole _ _).trans (slot_rect s _))
theorem w_acc (h : off = ![s, 0, 0]) : (wM.access (Rect.unit (s := S2x4096x1024) off S1x4096x1024.size inb)).set = slot 2 4096 1024 s := by
  subst h
  exact (View.set_slice_whole _ _).trans (slot_rect s _)

theorem w_read (h : off = ![s, 0, 0]) (hs : s < 2) (c : Dev nD) (b : ℕ) :
    (wM.access (Rect.unit (s := S2x4096x1024) off S1x4096x1024.size inb)).read (Elt F) (WB m c b) = WV m c b := by
  subst h
  funext j
  show WB m c b ((Rect.unit (s := S2x4096x1024) ![s, 0, 0] S1x4096x1024.size inb).emb j) = WV m c b j
  rw [emb_slot s hs inb j]
  exact congrArg (WV m c b) (eta_slot j)

/-- Block `b` of the weights copied into slot `s`. -/
theorem w_land {off' : Fin 2 → ℕ} {inb' : ∀ a, off' a + S4096x1024.size a ≤ S4096x8192.size a} {c : Dev nD} {b : ℕ}
    (h : off = ![s, 0, 0]) (hs : s < 2) (hb : b < 8) (h' : off' = ![0, 1024 * b]) {i2 sq i2'} (f) :
    ∀ i ∈ ((wM.slice (Rect.unit (s := S2x4096x1024) off S1x4096x1024.size inb) i2).squeeze S4096x1024 sq).view.set,
      ((wM.slice (Rect.unit (s := S2x4096x1024) off S1x4096x1024.size inb) i2).squeeze S4096x1024 sq).view.write (Elt F) f
        ((hM.slice (Rect.unit (s := S4096x8192) off' S4096x1024.size inb') i2').view.read (Elt F) (wmat m c)) Finset.univ i = WB m c b i := by
  intro i hi
  have e : (hM.slice (Rect.unit (s := S4096x8192) off' S4096x1024.size inb') i2').view.read (Elt F) (wmat m c)
      = ((wM.slice (Rect.unit (s := S2x4096x1024) off S1x4096x1024.size inb) i2).squeeze S4096x1024 sq).view.read (Elt F) (WB m c b) := by
    subst h h'
    funext j
    show wmat m c ((Rect.unit (s := S4096x8192) ![0, 1024 * b] S4096x1024.size inb').emb j)
      = WB m c b ((Rect.unit (s := S2x4096x1024) ![s, 0, 0] S1x4096x1024.size inb).emb (Shape.reshapeEquiv _ j))
    rw [emb_slot s hs inb, cons_slot]
    show _ = wmat m c (ix2 (j 0) _)
    refine congrArg (wmat m c) ?_
    funext a
    apply Fin.ext
    match a with
    | 0 => show 0 + 1 * (j 0).val = (j 0).val; omega
    | 1 => show 1024 * b + 1 * (j 1).val = 1024 * (b % 8) + (j 1).val; rw [Nat.mod_eq_of_lt hb]; omega
  rw [e]
  exact write_read_on _ _ _ i hi

end Weights

end Cert.Exchange
-- ==== Proof.Steps.lean ====
/-
# One step of the kernel at a time

The state of a device between two operations of the kernel is an assertion with an explicit counter: how many barrier
signals, chunks or waits are behind it. Each lemma takes the program at one operation and leaves it after that operation with
the counter moved by one. The program is walked with these lemmas alone.
-/
module

public import proofs.«01_k».proof.Proof.Views
public import Idealize.SL.BI.BigOpNat

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

/-- No procedure of the kernel is called by name. -/
abbrev 𝒱₀ : Variants := Variants.none

/-- A program of the device. -/
abbrev PR (F : FTy → Type) (α : Type) : Type 1 := Prog (TpuEff nD τ sig (Elt F) Λ₀ .tc) α
/-- The weakest precondition of a device's program. -/
abbrev WP {α : Type} (c : Dev nD) (p : PR F α) (Q : α → sProp 𝕄) : sProp 𝕄 :=
  wp frame (wpE (defs₀ (F := F)) 𝒱₀ (c : Thread nD τ) none) Set.univ p Q

variable (m : (ℓ : Loc nD τ sig) → Buf (Elt F) ℓ) (ρ : Dev nD → PrngReg)

/-! ## The cells as a finite set, and what is known for good -/

/-- The semaphores of the exchange: the barrier, then the DMA semaphores from number 2 on. -/
def csem : ℕ → SemLoc sig
  | 0 => .reg barS
  | n + 1 => dq (n + 2)

/-- Cell number `i` of a device. -/
def kcell (ck : Dev nD × Fin 131) : GSem nD τ sig := ((ck.1 : Thread nD τ), csem ck.2.val)

theorem kcell_injective : Function.Injective kcell := fun a b h => by
  obtain ⟨c, i⟩ := a; obtain ⟨c', i'⟩ := b
  have h1 : (c : Thread nD τ) = c' := congrArg Prod.fst h
  have h2 : csem i.val = csem i'.val := congrArg Prod.snd h
  have hc : c = c' := congrArg Prod.fst h1
  subst hc
  refine Prod.ext rfl (Fin.ext ?_)
  show i.val = i'.val
  have hi := i.isLt; have hi' := i'.isLt
  generalize i.val = a at h2 hi ⊢
  generalize i'.val = b at h2 hi' ⊢
  match a, b with
  | 0, 0 => rfl
  | 0, b + 1 => cases h2
  | a + 1, 0 => cases h2
  | a + 1, b + 1 =>
    have : (a + 2) % 132 = (b + 2) % 132 := congrArg Fin.val (SemLoc.dma.inj h2)
    omega

/-- All cells of the exchange. -/
def cells : Finset (GSem nD τ sig) := Finset.univ.map ⟨kcell, kcell_injective⟩

theorem mem_cells (c : Dev nD) {i : ℕ} (h : i < 131) : ((c : Thread nD τ), csem i) ∈ cells :=
  Finset.mem_map.mpr ⟨(c, ⟨i, h⟩), Finset.mem_univ _, rfl⟩
theorem mem_bar (c : Dev nD) : barC c ∈ cells := mem_cells c (i := 0) (by decide)
theorem mem_dq (c : Dev nD) {n : ℕ} (h2 : 2 ≤ n) (h : n < 132) : ((c : Thread nD τ), dq n) ∈ cells := by
  have := mem_cells c (i := n - 1) (by omega)
  obtain ⟨k, rfl⟩ : ∃ k, n = k + 2 := ⟨n - 2, by omega⟩
  exact this

variable (K : GSem nD τ sig → ℕ)

/-- Every cell's invariant, that its round 0 is reached, and the levels. -/
def Pers : sProp 𝕄 :=
  iprop((bigSep cells fun g => cellInv ER (Rd m ρ) (K g) g) ∗ (bigSep cells fun g => reached ER g 0) ∗ levAts L lv)

instance Pers_persistent : BI.Persistent (Pers (F := F) m ρ K) := by unfold Pers; infer_instance

theorem inv_all {g : GSem nD τ sig} (h : g ∈ cells) :
    (bigSep cells fun g => (cellInv ER (Rd m ρ) (K g) g : sProp 𝕄)) ⊢ cellInv ER (Rd m ρ) (K g) g := bigSep_elim h
omit [FloatOps F] in
theorem reached_all {g : GSem nD τ sig} (h : g ∈ cells) :
    (bigSep cells fun g => (reached ER g 0 : sProp 𝕄)) ⊢ reached ER g 0 := bigSep_elim h
theorem inv_of {g : GSem nD τ sig} (h : g ∈ cells) : Pers m ρ K ⊢ cellInv ER (Rd m ρ) (K g) g := by
  unfold Pers
  iintro ⟨#H, -, -⟩
  iapply (inv_all m ρ K h); iexact H
theorem reached_of {g : GSem nD τ sig} (h : g ∈ cells) : Pers m ρ K ⊢ reached ER g 0 := by
  unfold Pers
  iintro ⟨-, #H, -⟩
  iapply (reached_all h); iexact H
theorem lev_of : Pers m ρ K ⊢ levAts L lv := by
  unfold Pers
  iintro ⟨-, -, #H⟩
  iexact H

set_option maxRecDepth 20000 in
/-- A device may wait on a cell below everything it owes. -/
theorem wait_of (c : Dev nD) (sm : SemLoc sig) {O : CellTallies nD τ sig Unit} {l : ℕ} (hl : lvl (role sm).1 ≤ l) (h : Above l O) :
    Pers m ρ K ⊢ MayWait (c : Thread nD τ) sm () O :=
  (lev_of m ρ K).trans (mayWait (F := F) c sm hl h)

/-- What a device owes, whatever it has waited for. -/
def Ow (c : Dev nD) (a b k : ℕ) : sProp 𝕄 := iprop(∃ W, owes (c : Thread nD τ) (Od c a b k) W)

variable {c : Dev nD} {α β : Type}

/-! ## Plumbing -/

omit [FloatOps F] in
theorem step_bind [FloatOps F] {Q : α → sProp 𝕄} {A : sProp 𝕄} {p : PR F β} {f : β → PR F α} (h : A ⊢ WP c p fun b => WP c (f b) Q) : A ⊢ WP c (p >>= f) Q := by
  unfold WP; rw [wp_bind]; exact h
theorem step_pure {Q : α → sProp 𝕄} {A : sProp 𝕄} {a : α} (h : A ⊢ Q a) : A ⊢ WP c (Pure.pure a : PR F α) Q := by
  refine h.trans ?_
  unfold WP; rw [Prog.pure_eq_ret, wp_ret]
  iintro H; imodintro; iexact H
theorem step_device {Q : α → sProp 𝕄} {A : sProp 𝕄} {k : Dev nD → PR F α} (h : A ⊢ WP c (k c) Q) : A ⊢ WP c (Prog.lift .deviceId >>= k) Q := by
  rw [Prog.lift, Prog.bind_op]
  simp only [Prog.bind_ret, wp_deviceId]
  exact h

/-! ## The barrier -/

/-- The barrier signals from the `n`-th neighbour on, still to be made: the right to each and what each hands over. -/
def BarSt (c : Dev nD) (n : ℕ) : sProp 𝕄 := bigSep (Finset.Ico n 31) fun d =>
  iprop(dutyTok ER (barC (nb d c)) 0 c ∗ (∃ f, rPts c (nb d c).val f) ∗ ∃ f, gPts c (nb d c).val f)

theorem step_signal {Q : α → sProp 𝕄} {R : sProp 𝕄} {n : ℕ} {dst : Dev nD} {k : PUnit → PR F α} (hn : n < 31) (hd : dst = nb n c)
    (h : iprop(Pers m ρ K ∗ Ow c 0 0 (n + 1) ∗ BarSt c (n + 1) ∗ R) ⊢ WP c (k ⟨⟩) Q) :
    iprop(Pers m ρ K ∗ Ow c 0 0 n ∗ BarSt c n ∗ R) ⊢ WP c (semSignalWord dst barS 1#32 >>= k) Q := by
  subst hd
  rw [semSignalWord, Prog.bind_op]
  simp only [Prog.bind_ret]
  unfold Ow BarSt at *
  rw [bigSep_Ico_succ_bot hn]
  iintro ⟨#HP, ⟨%W, HO⟩, ⟨⟨Ht, Hr, Hg⟩, Hrest⟩, HR⟩
  iapply (Rounds.wp_signal 𝒱₀ ER (Rd m ρ) (c : Thread nD τ) none (dst := (nb n c : Thread nD τ)) (κ := K (barC (nb n c)))
      (d := c) (by rw [duties_eq, duty_bar]; exact Finset.mem_erase.mpr ⟨(nb_ne hn c).symm, Finset.mem_univ _⟩)
      ((amount_eq m ρ (nb n c) _ 0 c).trans (by rw [role_bar]; decide)) () (Od c 0 0 (n + 1)) (Od_bar c 0 0 hn)) $$ [HO Ht Hr Hg]
  · isplitr; · iapply (inv_of m ρ K (mem_bar (nb n c))); iexact HP
    isplitl [HO]; · iexact HO
    isplitl [Ht]; · iexact Ht
    isplitl [Hr Hg]
    · rw [payload_eq, role_bar]; unfold pay
      isplitl [Hr] <;> iassumption
    iapply (reached_of m ρ K (mem_bar (nb n c))); iexact HP
  iintro HO
  iapply h
  isplitr; · iexact HP
  isplitl [HO]; · iexists W; iexact HO
  isplitl [Hrest] <;> iassumption

/-- What the barrier brings: slot `c` of every other device's landing buffers. -/
def Got (c : Dev nD) : sProp 𝕄 := bigSep (Finset.univ.erase c) fun d => iprop((∃ f, rPts d c.val f) ∗ ∃ f, gPts d c.val f)

theorem step_barrier {Q : α → sProp 𝕄} {R : sProp 𝕄} {k : PUnit → PR F α}
    (h : iprop(Pers m ρ K ∗ Ow c 0 0 31 ∗ (semVal (barC c) 0 ∗ Got c) ∗ R) ⊢ WP c (k ⟨⟩) Q) :
    iprop(Pers m ρ K ∗ Ow c 0 0 31 ∗ BarSt c 31 ∗ (cred (tallyAt (barC c) () 31) ∗ atPos ER (barC c) 0 ∅ 0) ∗ R)
      ⊢ WP c (semWaitWord barS 31#32 >>= k) Q := by
  rw [semWaitWord, Prog.bind_op]
  simp only [Prog.bind_ret]
  unfold Ow at *
  iintro ⟨#HP, ⟨%W, HO⟩, -, ⟨Hc, Ha⟩, HR⟩
  iapply (Rounds.wp_wait_rest_token 𝒱₀ ER (Rd m ρ) (c : Thread nD τ) none (κ := K (barC c))
      (wpE_semWait_eq 𝒱₀ (c : Thread nD τ) none Set.univ) (Set.mem_univ _) () (O := Od c 0 0 31) (W := W) (R := 0) (m := 0) (T := ∅)
      (by rw [expect_eq, duty_bar, role_bar, Finset.card_erase_of_mem (Finset.mem_univ _)]; rfl)) $$ [Hc HO Ha]
  · isplitr; · iapply (inv_of m ρ K (mem_bar c)); iexact HP
    isplitl [Hc]; · iexact Hc
    isplitl [HO]; · iexact HO
    isplitr; · iapply (wait_of m ρ K c (.reg barS) (l := 1) (by rw [role_bar]; exact Nat.le_refl 1) (above_bar c 0 0)); iexact HP
    iexact Ha
  iintro ⟨HO, Ha, -, Hpay⟩
  imod (Rounds.cell_close (g := barC c) ER (Rd m ρ) (Set.mem_univ (K (barC c))) (fun h => h) (R := 0 + 1)
    (duty_done (k := role (.reg barS)) c (.inr ⟨le_rfl, by rw [role_bar]; decide⟩))) $$ [Ha] with Hz
  · isplitr; · iapply (inv_of m ρ K (mem_bar c)); iexact HP
    iexact Ha
  iapply h
  isplitr; · iexact HP
  isplitl [HO]; · iexists _; iexact HO
  isplitl [Hpay Hz]
  · isplitl [Hz]; · iexact Hz
    unfold Got
    rw [Finset.sdiff_empty, duties_eq, duty_bar]
    simp only [payload_eq, role_bar, pay]
    iexact Hpay
  iexact HR

omit [FloatOps F] in
theorem range_snoc (n : ℕ) (Φ : ℕ → sProp 𝕄) : bigSep (Finset.range (n + 1)) Φ = iprop(Φ n ∗ bigSep (Finset.range n) Φ) := by
  rw [Finset.range_add_one]; exact bigSep_insert Finset.notMem_range_self

/-! ## Points-to assertions through a view -/

omit [FloatOps F] in
/-- The elements of a view, whose contents are known on it, as those of a slot. -/
theorem view_pts {ℓ : Loc nD τ sig} {S S' : Finset (Idx ℓ)} {q : PosShare TreeShare} {f g : Buf (Elt F) ℓ} (hS : S = S')
    (h : ∀ i ∈ S, f i = g i) : (ℓ ↦[S]{q} f : sProp 𝕄) ⊢ (ℓ ↦[S']{q} g) := by
  subst hS; rw [pointsTo_congr h]

/-! ## Waits for transfers -/

theorem step_wait {Q : α → sProp 𝕄} {n r N l : ℕ} {d : Dev nD} (hn2 : 2 ≤ n) (hn : n < 132) (hd : duty c r (role (dq n)) = {d}) (hN : amt (role (dq n)).1 = N)
    {O : CellTallies nD τ sig Unit} {W : Waits sig Unit} (hl : lvl (role (dq n)).1 ≤ l) (hO : Above l O)
    {q : DmaSem sig} (hq : (SemLoc.dma q : SemLoc sig) = dq n) {sp sp' : Space} {s s' : Shape} {e e' : EltTy}
    {src : Memref sig .tc sp s e} {dst : Memref sig .tc sp' s' e'} {h1 h2} (hk : dst.view.dmaCredit = N) {k : PUnit → PR F α} :
    iprop(Pers m ρ K ∗ owes (c : Thread nD τ) O W ∗ cred (tallyAt ((c : Thread nD τ), dq n) () N) ∗ atPos ER ((c : Thread nD τ), dq n) r ∅ 0)
      ⊢ iprop(((∃ W', owes (c : Thread nD τ) O W') ∗ atPos ER ((c : Thread nD τ), dq n) (r + 1) ∅ 0
            ∗ reached ER ((c : Thread nD τ), dq n) (r + 1) ∗ pay m ρ c r d (role (dq n)) -∗ WP c (k ⟨⟩) Q)
          -∗ WP c (Prog.lift (.waitDma2 q src dst h1 h2) >>= k) Q) := by
  obtain rfl : q = (⟨n % 132, Nat.mod_lt _ (by decide)⟩ : Fin 132) := SemLoc.dma.inj hq
  rw [Prog.lift, Prog.bind_op]
  simp only [Prog.bind_ret]
  iintro ⟨#HP, HO, Hc, Ha⟩ Hk
  iapply (Rounds.wp_wait_rest_token 𝒱₀ ER (Rd m ρ) (c : Thread nD τ) none (κ := K ((c : Thread nD τ), dq n)) (sm := dq n) (k' := N)
      (fun X => (wpE_waitDma2_eq 𝒱₀ (c : Thread nD τ) none Set.univ X).trans (by rw [hk]; rfl)) (Set.mem_univ _) () (O := O) (W := W) (R := r) (m := 0) (T := ∅)
      (by rw [← hN]; exact expect_one m ρ hd)) $$ [Hc HO Ha]
  · isplitr; · iapply (inv_of m ρ K (mem_dq c hn2 hn)); iexact HP
    isplitl [Hc]; · iexact Hc
    isplitl [HO]; · iexact HO
    isplitr; · iapply (wait_of m ρ K c (dq n) hl hO); iexact HP
    iexact Ha
  iintro ⟨HO, Ha, Hr, Hpay⟩
  iapply Hk
  isplitl [HO]; · iexists _; iexact HO
  isplitl [Ha]; · iexact Ha
  isplitl [Hr]; · iexact Hr
  simp only [rest_one m ρ hd]
  iexact Hpay

end Cert.Exchange
-- ==== Proof.Weights.lean ====
/-
# Filling the two weight slots
-/

module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg)
variable (K : GSem nD τ sig → ℕ) {c : Dev nD} {α : Type}

/-! ## The weight blocks -/

/-- A share of a device's weights. -/
def hPts (c : Dev nD) (q : PosShare TreeShare) : sProp 𝕄 := ((c : Thread nD τ).loc main_arg1) ↦{q} wmat m c

/-- The weight copies from block `n` on, still to be started: the right to each and the share of the weights it reads. -/
def Wt (c : Dev nD) (n : ℕ) : sProp 𝕄 := bigSep (Finset.Ico n 8) fun b =>
  iprop(dutyTok ER (wC c (b % 2)) (b / 2) c ∗ hPts m c (shareTokN fullShare.right b))
/-- The slot of block `b`, ready to be filled. -/
def Free (c : Dev nD) (b : ℕ) : sProp 𝕄 :=
  iprop((∃ f, wPts c (b % 2) f) ∗ atPos ER (wC c (b % 2)) (b / 2) ∅ 0 ∗ reached ER (wC c (b % 2)) (b / 2))
/-- The slot of block `b` while the copy runs. -/
def Fly (c : Dev nD) (b : ℕ) : sProp 𝕄 := iprop(cred (tallyAt (wC c (b % 2)) () NW) ∗ atPos ER (wC c (b % 2)) (b / 2) ∅ 0)
/-- The slot of block `b`, filled. -/
def Held (c : Dev nD) (b : ℕ) : sProp 𝕄 :=
  iprop(wPts c (b % 2) (WB m c b) ∗ atPos ER (wC c (b % 2)) (b / 2 + 1) ∅ 0 ∗ reached ER (wC c (b % 2)) (b / 2 + 1))

/-- The slot of one block is the slot of the block after next. -/
theorem held_free (b : ℕ) : Held m c b ⊢ Free (F := F) c (b + 2) := by
  unfold Held Free
  rw [show (b + 2) % 2 = b % 2 by omega, show (b + 2) / 2 = b / 2 + 1 by omega]
  iintro ⟨Hw, H⟩
  isplitl [Hw]; · iexists _; iexact Hw
  iexact H

section
variable {off : Fin 3 → ℕ} {inb : ∀ a, off a + S1x4096x1024.size a ≤ S2x4096x1024.size a} {i2 : ∀ a, (Rect.unit (s := S2x4096x1024) off S1x4096x1024.size inb).stride a = 1}
  {sq : S1x4096x1024.Squeezes S4096x1024}

theorem step_fill {Q : α → sProp 𝕄} {O Y R : sProp 𝕄} {b : ℕ} (hb : b < 8) (hoff : off = ![b % 2, 0, 0])
    {off' : Fin 2 → ℕ} {inb' : ∀ a, off' a + S4096x1024.size a ≤ S4096x8192.size a} {i2'} (hoff' : off' = ![0, 1024 * b])
    {sm : SemLoc sig} (hsm : sm = dq (2 + b % 2)) {h1 h2 h3} {k : PUnit → PR F α}
    (h : iprop(Pers m ρ K ∗ O ∗ (Wt m c (b + 1) ∗ Y ∗ Fly c b) ∗ R) ⊢ WP c (k ⟨⟩) Q) :
    iprop(Pers m ρ K ∗ O ∗ (Wt m c b ∗ Free c b ∗ Y) ∗ R)
      ⊢ WP c (Prog.lift (.enqueueDma (hM.slice (Rect.unit (s := S4096x8192) off' S4096x1024.size inb') i2')
          (.here ((wM.slice (Rect.unit (s := S2x4096x1024) off S1x4096x1024.size inb) i2).squeeze S4096x1024 sq)) sm h1 h2 h3) >>= k) Q := by
  subst hsm
  have hs : b % 2 < 2 := Nat.mod_lt _ (by decide)
  rw [Prog.lift, Prog.bind_op]
  simp only [Prog.bind_ret]
  unfold Wt Free Fly at *
  rw [bigSep_Ico_succ_bot hb]
  iintro ⟨#HP, HO, ⟨⟨⟨Ht, Hh⟩, Hrest⟩, ⟨⟨%f, Hw⟩, Ha, Hr⟩, HY⟩, HR⟩
  ihave Hh' := (show hPts m c (shareTokN fullShare.right b) ⊢ iprop(
      ((hM.slice (Rect.unit (s := S4096x8192) off' S4096x1024.size inb') i2').view.loc (c : Thread nD τ)
        ↦[(hM.slice (Rect.unit (s := S4096x8192) off' S4096x1024.size inb') i2').view.set]{shareTokN fullShare.right b} wmat m c) ∗ True) from by
    unfold hPts
    refine (pointsTo_split_subset (I := (hM.slice (Rect.unit (s := S4096x8192) off' S4096x1024.size inb') i2').view.set) (Finset.subset_univ _)).1.trans ?_
    iintro ⟨H, -⟩
    isplitl [H]; · iexact H
    ipureintro; trivial) $$ [Hh]
  · iexact Hh
  icases Hh' with ⟨Hh, -⟩
  iapply (Rounds.wp_copy_pointsTo 𝒱₀ ER (Rd m ρ) (c : Thread nD τ) none (κ := K (wC c (b % 2))) (sem := dq (2 + b % 2)) (r := b / 2) (d := c) (fd := f)
      (fs := wmat m c) (q := shareTokN fullShare.right b)
      (src := hM.slice (Rect.unit (s := S4096x8192) off' S4096x1024.size inb') i2')
      (dst := (wM.slice (Rect.unit (s := S2x4096x1024) off S1x4096x1024.size inb) i2).squeeze S4096x1024 sq)
      (by rw [duties_eq, duty_w c (by omega) hs]; exact Finset.mem_singleton_self _) () NW (by unfold dq; exact credit_w)
      ((amount_eq m ρ c _ _ c).trans (by rw [role_w hs]; rfl)) (by
        rw [payload_eq, role_w hs]
        show _ ⊢ wPts c (b % 2) (WB m c (2 * (b / 2) + b % 2))
        rw [show 2 * (b / 2) + b % 2 = b by omega]
        iintro ⟨H, -⟩
        unfold wPts
        iapply (view_pts (ℓ := wL c) (g := WB m c b) (w_set (inb := inb) (i2 := i2) (sq := sq) hoff)
          (w_land (inb := inb) (i2 := i2) (sq := sq) (inb' := inb') (i2' := i2') m (c := c) hoff hs hb hoff' f))
        iexact H)) $$ [Hh Hw Ht Hr]
  · isplitr; · iapply (inv_of m ρ K (mem_dq c (n := 2 + b % 2) (by omega) (by omega))); iexact HP
    isplitl [Hh]; · iexact Hh
    isplitl [Hw]
    · rw [w_set hoff]; unfold wPts; iexact Hw
    isplitl [Ht] <;> iassumption
  iintro Hc
  iapply h
  isplitr; · iexact HP
  isplitl [HO]; · iexact HO
  isplitr [HR]
  · isplitl [Hrest]; · iexact Hrest
    isplitl [HY]; · iexact HY
    isplitl [Hc] <;> iassumption
  iexact HR

/-- The wait for a weight block. -/
theorem take_block {Q : α → sProp 𝕄} {b b' : ℕ} (hb : b < 8)
    {q : DmaSem sig} (hq : (SemLoc.dma q : SemLoc sig) = dq (2 + b % 2)) {sp : Space} {s : Shape} {e : EltTy}
    {src : Memref sig .tc sp s e} {h1 h2} {k : PUnit → PR F α} :
    iprop(Pers m ρ K ∗ Ow c 0 b' 31 ∗ Fly c b)
      ⊢ iprop((Ow c 0 b' 31 ∗ Held m c b -∗ WP c (k ⟨⟩) Q)
          -∗ WP c (Prog.lift (.waitDma2 q src ((wM.slice (Rect.unit (s := S2x4096x1024) off S1x4096x1024.size inb) i2).squeeze S4096x1024 sq) h1 h2) >>= k) Q) := by
  have hs : b % 2 < 2 := Nat.mod_lt _ (by decide)
  unfold Ow Fly Held
  iintro ⟨#HP, ⟨%W, HO⟩, Hc, Ha⟩ Hk
  iapply (step_wait m ρ K (n := 2 + b % 2) (r := b / 2) (N := NW) (l := 1) (d := c) (by omega) (by omega) (duty_w c (by omega) hs)
    (by rw [role_w hs]; rfl) (by rw [role_w hs]; exact Nat.zero_le 1) (above_bar c 0 b') hq credit_w) $$ [HO Hc Ha]
  · isplitr; · iexact HP
    isplitl [HO]; · iexact HO
    isplitl [Hc] <;> iassumption
  iintro ⟨HO, Ha, Hr, Hpay⟩
  iapply Hk
  isplitl [HO]; · iexact HO
  isplitl [Hpay]
  · simp only [role_w hs, pay, show 2 * (b / 2) + b % 2 = b by omega]
    iexact Hpay
  isplitl [Ha] <;> iassumption

theorem step_take {Q : α → sProp 𝕄} {T Y R : sProp 𝕄} {b b' : ℕ} (hb : b < 8)
    {q : DmaSem sig} (hq : (SemLoc.dma q : SemLoc sig) = dq (2 + b % 2)) {sp : Space} {s : Shape} {e : EltTy}
    {src : Memref sig .tc sp s e} {h1 h2} {k : PUnit → PR F α}
    (h : iprop(Pers m ρ K ∗ Ow c 0 b' 31 ∗ (T ∗ Held m c b ∗ Y) ∗ R) ⊢ WP c (k ⟨⟩) Q) :
    iprop(Pers m ρ K ∗ Ow c 0 b' 31 ∗ (T ∗ Fly c b ∗ Y) ∗ R)
      ⊢ WP c (Prog.lift (.waitDma2 q src ((wM.slice (Rect.unit (s := S2x4096x1024) off S1x4096x1024.size inb) i2).squeeze S4096x1024 sq) h1 h2) >>= k) Q := by
  iintro ⟨#HP, HO, ⟨HT, HF, HY⟩, HR⟩
  iapply (take_block m ρ K hb hq) $$ [HO HF]
  · isplitr; · iexact HP
    isplitl [HO] <;> iassumption
  iintro ⟨HO, HH⟩
  iapply h
  isplitr; · iexact HP
  isplitl [HO]; · iexact HO
  isplitr [HR]
  · isplitl [HT]; · iexact HT
    isplitl [HH] <;> iassumption
  iexact HR

/-- The last block: its slot becomes the first. -/
theorem step_take_last {Q : α → sProp 𝕄} {T R : sProp 𝕄} {b b' : ℕ} (hb : b < 8) {a : ℕ}
    {q : DmaSem sig} (hq : (SemLoc.dma q : SemLoc sig) = dq (2 + b % 2)) {sp : Space} {s : Shape} {e : EltTy}
    {src : Memref sig .tc sp s e} {h1 h2} {k : PUnit → PR F α}
    (h : iprop(Pers m ρ K ∗ Ow c 0 b' 31 ∗ (T ∗ Held m c b ∗ Held m c a) ∗ R) ⊢ WP c (k ⟨⟩) Q) :
    iprop(Pers m ρ K ∗ Ow c 0 b' 31 ∗ (T ∗ Held m c a ∗ Fly c b) ∗ R)
      ⊢ WP c (Prog.lift (.waitDma2 q src ((wM.slice (Rect.unit (s := S2x4096x1024) off S1x4096x1024.size inb) i2).squeeze S4096x1024 sq) h1 h2) >>= k) Q := by
  iintro ⟨#HP, HO, ⟨HT, HA, HF⟩, HR⟩
  iapply (take_block m ρ K hb hq) $$ [HO HF]
  · isplitr; · iexact HP
    isplitl [HO] <;> iassumption
  iintro ⟨HO, HH⟩
  iapply h
  isplitr; · iexact HP
  isplitl [HO]; · iexact HO
  isplitr [HR]
  · isplitl [HT]; · iexact HT
    isplitl [HH] <;> iassumption
  iexact HR

/-- The next block goes into the slot of the block just used. -/
theorem step_refill {Q : α → sProp 𝕄} {O Y R : sProp 𝕄} {b : ℕ} (hb : b + 2 < 8) (hoff : off = ![b % 2, 0, 0])
    {off' : Fin 2 → ℕ} {inb' : ∀ a, off' a + S4096x1024.size a ≤ S4096x8192.size a} {i2'} (hoff' : off' = ![0, 1024 * (b + 2)])
    {sm : SemLoc sig} (hsm : sm = dq (2 + b % 2)) {h1 h2 h3} {k : PUnit → PR F α}
    (h : iprop(Pers m ρ K ∗ O ∗ (Wt m c (b + 3) ∗ Y ∗ Fly c (b + 2)) ∗ R) ⊢ WP c (k ⟨⟩) Q) :
    iprop(Pers m ρ K ∗ O ∗ (Wt m c (b + 2) ∗ Held m c b ∗ Y) ∗ R)
      ⊢ WP c (Prog.lift (.enqueueDma (hM.slice (Rect.unit (s := S4096x8192) off' S4096x1024.size inb') i2')
          (.here ((wM.slice (Rect.unit (s := S2x4096x1024) off S1x4096x1024.size inb) i2).squeeze S4096x1024 sq)) sm h1 h2 h3) >>= k) Q := by
  have e : (b + 2) % 2 = b % 2 := by omega
  refine BIBase.Entails.trans ?_ (step_fill m ρ K hb (by rw [e]; exact hoff) hoff' (by rw [e]; exact hsm) h)
  iintro ⟨HP, HO, ⟨HT, HH, HY⟩, HR⟩
  isplitl [HP]; · iexact HP
  isplitl [HO]; · iexact HO
  isplitr [HR]
  · isplitl [HT]; · iexact HT
    isplitl [HH]
    · iapply (held_free m b); iexact HH
    iexact HY
  iexact HR

theorem step_load_w {Q : α → sProp 𝕄} {O T Y R : sProp 𝕄} {b : ℕ} (hoff : off = ![b % 2, 0, 0]) {hl} {k : Vec F S1x4096x1024 .f32 → PR F α}
    (h : iprop(Pers m ρ K ∗ O ∗ (T ∗ Held m c b ∗ Y) ∗ R) ⊢ WP c (k (WV m c b)) Q) :
    iprop(Pers m ρ K ∗ O ∗ (T ∗ Held m c b ∗ Y) ∗ R)
      ⊢ WP c (Prog.lift (.load wM (Rect.unit (s := S2x4096x1024) off S1x4096x1024.size inb).toLoadRect hl) >>= k) Q := by
  have hs : b % 2 < 2 := Nat.mod_lt _ (by decide)
  rw [Prog.lift, Prog.bind_op]
  simp only [Prog.bind_ret]
  unfold Held wPts at *
  iintro ⟨#HP, HO, ⟨HT, ⟨Hw, Ha⟩, HY⟩, HR⟩
  iapply (wp_load_rect 𝒱₀ (c : Thread nD τ) none Set.univ (m := wM) (S := slot 2 4096 1024 (b % 2)) (f := WB m c b)
    (r := Rect.unit (s := S2x4096x1024) off S1x4096x1024.size inb) (by rw [w_acc hoff])) $$ Hw
  iintro Hw
  rw [w_read m hoff hs c b]
  iapply h
  isplitr; · iexact HP
  isplitl [HO]; · iexact HO
  isplitr [HR]
  · isplitl [HT]; · iexact HT
    isplitr [HY]
    · isplitl [Hw] <;> iassumption
    iexact HY
  iexact HR

end

end Cert.Exchange
-- ==== Proof.Chunks.lean ====
/-
# Making, sending and keeping the chunks
-/

module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg)
variable (K : GSem nD τ sig → ℕ) {c : Dev nD} {α : Type}

/-- Chunk `k`, still to be made: room for it, and for a chunk that travels the rights to send it and slot `c` of device `k`. -/
def Item (c : Dev nD) (k : ℕ) : sProp 𝕄 :=
  if k = c.val then iprop(∃ f, rPts c c.val f)
  else iprop(dutyTok ER (sdC c k) 0 c ∗ dutyTok ER (rdC (dv k) c.val) 0 c ∗ ∃ f, rPts (dv k) c.val f)
/-- Chunk `k`, done: kept, or on its way. -/
def Done (c : Dev nD) (k : ℕ) : sProp 𝕄 :=
  if k = c.val then iprop(yPts c k (YB m ρ c) ∗ rPts c c.val (RB m ρ c)) else cred (tallyAt (sdC c k) () ND)
/-- The chunks from `n` on. -/
def Ahead (c : Dev nD) (n : ℕ) : sProp 𝕄 := bigSep (Finset.Ico n 32) fun k => iprop((∃ f, yPts c k f) ∗ Item (F := F) c k)
/-- Before chunk `n`. -/
def ChSt (c : Dev nD) (n : ℕ) : sProp 𝕄 := iprop(Ahead c n ∗ bigSep (Finset.range n) (Done m ρ c))
/-- Chunk `n` is in its slot. -/
def ChPut (c : Dev nD) (n : ℕ) : sProp 𝕄 :=
  iprop(Ahead c (n + 1) ∗ (yPts c n (YB m ρ c) ∗ Item c n) ∗ bigSep (Finset.range n) (Done m ρ c))
/-- Chunk `n` is on its way if it travels. -/
def ChSent (c : Dev nD) (n : ℕ) : sProp 𝕄 :=
  iprop(Ahead c (n + 1) ∗ (if n = c.val then iprop(yPts c n (YB m ρ c) ∗ ∃ f, rPts c c.val f) else cred (tallyAt (sdC c n) () ND))
    ∗ bigSep (Finset.range n) (Done m ρ c))

section
variable {off : Fin 3 → ℕ} {inb : ∀ a, off a + S1x128x256.size a ≤ S32x128x256.size a}

/-- A load whose value is not used. -/
theorem step_peek_y {Q : α → sProp 𝕄} {O T R : sProp 𝕄} {n : ℕ} (hn : n < 32) (hoff : off = ![n, 0, 0]) {hl} {G : PR F α}
    (h : iprop(Pers m ρ K ∗ O ∗ T ∗ ChSt m ρ c n ∗ R) ⊢ WP c G Q) :
    iprop(Pers m ρ K ∗ O ∗ T ∗ ChSt m ρ c n ∗ R)
      ⊢ WP c ((Prog.lift (.load yM (Rect.unit (s := S32x128x256) off S1x128x256.size inb).toLoadRect hl) : PR F (Vec F S1x128x256 .bf16)) >>= fun _ => G) Q := by
  rw [Prog.lift, Prog.bind_op]
  simp only [Prog.bind_ret]
  unfold ChSt Ahead yPts at *
  rw [bigSep_Ico_succ_bot hn] at *
  iintro ⟨HP, HO, HT, ⟨⟨⟨⟨%f, Hy⟩, Hi⟩, Hrest⟩, Hd⟩, HR⟩
  iapply (wp_load_rect 𝒱₀ (c : Thread nD τ) none Set.univ (m := yM) (S := slot 32 128 256 n) (f := f)
    (r := Rect.unit (s := S32x128x256) off S1x128x256.size inb) (by rw [y_acc hoff])) $$ Hy
  iintro Hy
  iapply h
  isplitl [HP]; · iexact HP
  isplitl [HO]; · iexact HO
  isplitl [HT]; · iexact HT
  isplitr [HR]
  · isplitr [Hd]
    · isplitr [Hrest]
      · isplitl [Hy]; · iexists f; iexact Hy
        iexact Hi
      iexact Hrest
    iexact Hd
  iexact HR

theorem step_put {Q : α → sProp 𝕄} {O T R : sProp 𝕄} {n : ℕ} (hn : n < 32) (hoff : off = ![n, 0, 0]) {v : Vec F S1x128x256 .bf16}
    (hv : v = CH m ρ c n) {h1 h2} {k : PUnit → PR F α}
    (h : iprop(Pers m ρ K ∗ O ∗ T ∗ ChPut m ρ c n ∗ R) ⊢ WP c (k ⟨⟩) Q) :
    iprop(Pers m ρ K ∗ O ∗ T ∗ ChSt m ρ c n ∗ R)
      ⊢ WP c (Prog.lift (.store yM (Rect.unit (s := S32x128x256) off S1x128x256.size inb) v Finset.univ h1 h2) >>= k) Q := by
  subst hv
  rw [Prog.lift, Prog.bind_op]
  simp only [Prog.bind_ret]
  unfold ChSt ChPut Ahead yPts at *
  rw [bigSep_Ico_succ_bot hn]
  iintro ⟨HP, HO, HT, ⟨⟨⟨⟨%f, Hy⟩, Hi⟩, Hrest⟩, Hd⟩, HR⟩
  iapply (wp_store 𝒱₀ (c : Thread nD τ) none Set.univ (m := yM) (S := slot 32 128 256 n) (f := f)
    (r := Rect.unit (s := S32x128x256) off S1x128x256.size inb) (Mk := Finset.univ) (w := CH m ρ c n)
    (by rw [View.setOn_univ, y_acc hoff])) $$ Hy
  iintro Hy
  iapply h
  isplitl [HP]; · iexact HP
  isplitl [HO]; · iexact HO
  isplitl [HT]; · iexact HT
  isplitr [HR]
  · isplitl [Hrest]; · iexact Hrest
    isplitr [Hd]
    · isplitl [Hy]
      · iapply (view_pts (ℓ := yL c) (S := slot 32 128 256 n) (g := YB m ρ c) rfl
          (fun i hi => y_store (inb := inb) m ρ hoff hn c f i (by rw [y_acc (inb := inb) hoff]; exact hi)))
        iexact Hy
      iexact Hi
    iexact Hd
  iexact HR

/-- The sending of chunk `n` to device `n`. -/
theorem step_send {Q : α → sProp 𝕄} {T R : sProp 𝕄} {n : ℕ} (hn : n < 32) (hne : n ≠ c.val)
    {dst : Dev nD} (hdst : dst = dv n) (hoff : off = ![n, 0, 0]) {i2 sq}
    {off' : Fin 3 → ℕ} {inb' : ∀ a, off' a + S1x128x256.size a ≤ S32x128x256.size a} {i2' sq'}
    (hoff' : off' = ![c.val, 0, 0]) {sS : SemLoc sig} (hS : sS = dq (4 + n)) {sR : SemLoc sig} (hR : sR = dq (36 + c.val))
    {hsc h1 h2 h3} {k : PUnit → PR F α}
    (h : iprop(Pers m ρ K ∗ Ow c 0 (n + 1) 31 ∗ T ∗ ChSent m ρ c n ∗ R) ⊢ WP c (k ⟨⟩) Q) :
    iprop(Pers m ρ K ∗ Ow c 0 n 31 ∗ T ∗ ChPut m ρ c n ∗ R)
      ⊢ WP c (Prog.lift (.enqueueDma ((yM.slice (Rect.unit (s := S32x128x256) off S1x128x256.size inb) i2).squeeze S128x256 sq)
          (.remote (Dev.tc dst) ((rM.slice (Rect.unit (s := S32x128x256) off' S1x128x256.size inb') i2').squeeze S128x256 sq')
            sS hsc) sR h1 h2 h3) >>= k) Q := by
  subst hdst hS hR
  have hc : c.val < 32 := dev_lt c
  have hcn : c.val ≠ (dv n).val := by rw [dv_val_of_lt hn]; exact hne.symm
  rw [Prog.lift, Prog.bind_op]
  simp only [Prog.bind_ret]
  unfold Ow ChPut ChSent Item at *
  rw [if_neg hne] at *
  iintro ⟨#HP, ⟨%W, HO⟩, HT, ⟨Hrest, ⟨Hy, Ht, Ht', ⟨%f, Hr⟩⟩, Hd⟩, HR⟩
  iapply (Rounds.wp_send_pointsTo 𝒱₀ ER (Rd m ρ) (c : Thread nD τ) none (c' := (dv n : Thread nD τ)) (κ₁ := K (sdC c n)) (κ₂ := K (rdC (dv n) c.val))
      (sS := dq (4 + n)) (sem := dq (36 + c.val)) (r₁ := 0) (r₂ := 0) (d₁ := c) (d₂ := c) (fd := f) (fs := YB m ρ c) (q := fullShare)
      (src := (yM.slice (Rect.unit (s := S32x128x256) off S1x128x256.size inb) i2).squeeze S128x256 sq)
      (dst := (rM.slice (Rect.unit (s := S32x128x256) off' S1x128x256.size inb') i2').squeeze S128x256 sq')
      (by rw [duties_eq, duty_sd c hn hne]; exact Finset.mem_singleton_self _)
      (by rw [duties_eq, duty_rd (dv n) hc hcn, dv_dev]; exact Finset.mem_singleton_self _) () () ND (by unfold dq; exact credit_r)
      ((amount_eq m ρ c _ _ c).trans (by rw [role_sd hn]; rfl)) ((amount_eq m ρ (dv n) _ _ c).trans (by rw [role_rd hc]; rfl))
      (Od c 0 (n + 1) 31) (Od_rd c 0 31 hn hne) (W := W) (by
        rw [payload_eq, role_sd hn]
        show _ ⊢ yPts c n (YB m ρ c)
        unfold yPts
        exact view_pts (ℓ := yL c) (g := YB m ρ c) (y_set hoff) (fun _ _ => rfl)) (by
        rw [payload_eq, role_rd hc]
        show _ ⊢ rPts (dv n) c.val (RB m ρ (dv n))
        unfold rPts
        exact view_pts (ℓ := rL (dv n)) (g := RB m ρ (dv n)) (r_set (inb := inb') (i2 := i2') (sq := sq') hoff')
          (y_land (inb := inb) (i2 := i2) (sq := sq) (inb' := inb') (i2' := i2') (sq' := sq') m ρ (c := c) (n := dv n)
            (by rw [dv_val_of_lt hn]; exact hoff) hoff' f))) $$ [HO Hy Hr Ht Ht']
  · isplitr; · iapply (inv_of m ρ K (mem_dq c (n := 4 + n) (by omega) (by omega))); iexact HP
    isplitr; · iapply (inv_of m ρ K (mem_dq (dv n) (n := 36 + c.val) (by omega) (by omega))); iexact HP
    isplitl [Hy]
    · rw [y_set hoff]; unfold yPts; iexact Hy
    isplitl [Hr]
    · rw [r_set hoff']; unfold rPts; iexact Hr
    isplitl [HO]; · iexact HO
    isplitl [Ht]; · iexact Ht
    isplitr; · iapply (reached_of m ρ K (mem_dq c (n := 4 + n) (by omega) (by omega))); iexact HP
    isplitl [Ht']; · iexact Ht'
    iapply (reached_of m ρ K (mem_dq (dv n) (n := 36 + c.val) (by omega) (by omega))); iexact HP
  iintro ⟨Hc, HO⟩
  iapply h
  isplitr; · iexact HP
  isplitl [HO]; · iexists W; iexact HO
  isplitl [HT]; · iexact HT
  isplitr [HR]
  · isplitl [Hrest]; · iexact Hrest
    isplitl [Hc] <;> iassumption
  iexact HR

/-- A chunk is sent unless it is the device's own. -/
theorem step_send_if {Q : α → sProp 𝕄} {T R : sProp 𝕄} {n : ℕ} (hn : n < 32) {P : Prop} [Decidable P] (hP : P ↔ n ≠ c.val)
    {p : P → PR F α} {G : PR F α}
    (h : iprop(Pers m ρ K ∗ Ow c 0 (n + 1) 31 ∗ T ∗ ChSent m ρ c n ∗ R) ⊢ WP c G Q)
    (hs : ∀ hp : P, n ≠ c.val → (iprop(Pers m ρ K ∗ Ow c 0 (n + 1) 31 ∗ T ∗ ChSent m ρ c n ∗ R) ⊢ WP c G Q)
      → (iprop(Pers m ρ K ∗ Ow c 0 n 31 ∗ T ∗ ChPut m ρ c n ∗ R) ⊢ WP c (p hp) Q)) :
    iprop(Pers m ρ K ∗ Ow c 0 n 31 ∗ T ∗ ChPut m ρ c n ∗ R) ⊢ WP c (dite P p (fun _ => G)) Q := by
  by_cases hp : P
  · rw [dif_pos hp]; exact hs hp (hP.mp hp) h
  have e : n = c.val := by by_contra hne; exact hp (hP.mpr hne)
  rw [dif_neg hp]
  refine BIBase.Entails.trans ?_ h
  unfold Ow ChPut ChSent Item
  rw [if_pos e, if_pos e, Od_rd_self c 0 31 hn e]

/-- The device's own chunk is copied into its own landing slot. -/
theorem step_keep {Q : α → sProp 𝕄} {O T R : sProp 𝕄} {n : ℕ} (hn : n < 32) (e : n = c.val)
    (hoff : off = ![n, 0, 0]) {pay : Vec F S1x128x256 .bf16 → FVec F S1x128x256 .bf16} (hpay : ∀ v, pay v = v) {hl hl' h1 h2} {k : PUnit → PR F α}
    (h : iprop(Pers m ρ K ∗ O ∗ T ∗ ChSt m ρ c (n + 1) ∗ R) ⊢ WP c (k ⟨⟩) Q) :
    iprop(Pers m ρ K ∗ O ∗ T ∗ ChSent m ρ c n ∗ R)
      ⊢ WP c ((Prog.lift (.load yM (Rect.unit (s := S32x128x256) off S1x128x256.size inb).toLoadRect hl) : PR F (Vec F S1x128x256 .bf16)) >>= fun v =>
          (Prog.lift (.load rM (Rect.unit (s := S32x128x256) off S1x128x256.size inb).toLoadRect hl') : PR F (Vec F S1x128x256 .bf16)) >>= fun _ =>
          Prog.lift (.store rM (Rect.unit (s := S32x128x256) off S1x128x256.size inb) (pay v) Finset.univ h1 h2) >>= k) Q := by
  simp only [Prog.lift, Prog.bind_op, Prog.bind_ret, hpay]
  unfold ChSt ChSent at *
  rw [if_pos e]
  rw [range_snoc] at h
  iintro ⟨HP, HO, HT, ⟨Hrest, ⟨Hy, ⟨%f, Hr⟩⟩, Hd⟩, HR⟩
  unfold yPts rPts
  iapply (wp_load_rect 𝒱₀ (c : Thread nD τ) none Set.univ (m := yM) (S := slot 32 128 256 n) (f := YB m ρ c)
    (r := Rect.unit (s := S32x128x256) off S1x128x256.size inb) (by rw [y_acc hoff])) $$ Hy
  iintro Hy
  rw [y_read m ρ hoff hn c]
  rw [← e]
  iapply (wp_load_rect 𝒱₀ (c : Thread nD τ) none Set.univ (m := rM) (S := slot 32 128 256 n) (f := f)
    (r := Rect.unit (s := S32x128x256) off S1x128x256.size inb) (by rw [r_acc hoff])) $$ Hr
  iintro Hr
  iapply (wp_store 𝒱₀ (c : Thread nD τ) none Set.univ (m := rM) (S := slot 32 128 256 n) (f := f)
    (r := Rect.unit (s := S32x128x256) off S1x128x256.size inb) (Mk := Finset.univ) (w := CH m ρ c n)
    (by rw [View.setOn_univ, r_acc hoff])) $$ Hr
  iintro Hr
  iapply h
  isplitl [HP]; · iexact HP
  isplitl [HO]; · iexact HO
  isplitl [HT]; · iexact HT
  isplitr [HR]
  · isplitl [Hrest]; · iexact Hrest
    isplitr [Hd]
    · unfold Done
      rw [if_pos e]
      unfold yPts rPts
      isplitl [Hy]; · iexact Hy
      rw [← e]
      iapply (view_pts (ℓ := rL c) (S := slot 32 128 256 n) (g := RB m ρ c) rfl
        (fun i hi => r_store (inb := inb) m ρ hoff hn c e f i (by rw [r_acc (inb := inb) hoff]; exact hi)))
      iexact Hr
    iexact Hd
  iexact HR

theorem step_keep_if {Q : α → sProp 𝕄} {O T R : sProp 𝕄} {n : ℕ} (hn : n < 32) {P : Prop} [Decidable P] (hP : P ↔ n = c.val)
    {p : P → PR F α} {G : PR F α}
    (h : iprop(Pers m ρ K ∗ O ∗ T ∗ ChSt m ρ c (n + 1) ∗ R) ⊢ WP c G Q)
    (hs : ∀ hp : P, n = c.val → (iprop(Pers m ρ K ∗ O ∗ T ∗ ChSt m ρ c (n + 1) ∗ R) ⊢ WP c G Q)
      → (iprop(Pers m ρ K ∗ O ∗ T ∗ ChSent m ρ c n ∗ R) ⊢ WP c (p hp) Q)) :
    iprop(Pers m ρ K ∗ O ∗ T ∗ ChSent m ρ c n ∗ R) ⊢ WP c (dite P p (fun _ => G)) Q := by
  by_cases hp : P
  · rw [dif_pos hp]; exact hs hp (hP.mp hp) h
  have e : n ≠ c.val := fun e => hp (hP.mpr e)
  rw [dif_neg hp]
  refine BIBase.Entails.trans ?_ h
  unfold ChSt ChSent
  rw [if_neg e, range_snoc]
  unfold Done
  rw [if_neg e]

end

end Cert.Exchange
-- ==== Proof.Maxima.lean ====
/-
# The input block, and the tile of the maximum
-/

module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg)
variable (K : GSem nD τ sig → ℕ) {c : Dev nD} {α : Type}

/-! ## The input block -/

/-- The device's staged block of rows. -/
def xPts (c : Dev nD) : sProp 𝕄 := ((c : Thread nD τ).loc cc0_stg0_0) ↦{fullShare} xstg m ρ c

theorem emb_zero {A B : ℕ} (inb) (j : (⟨2, ![A, B]⟩ : Shape).Idx) :
    (Rect.unit (s := (⟨2, ![A, B]⟩ : Shape)) ![0, 0] (⟨2, ![A, B]⟩ : Shape).size inb).emb j = j := by
  funext a
  apply Fin.ext
  match a with
  | 0 => show 0 + 1 * (j 0).val = (j 0).val; omega
  | 1 => show 0 + 1 * (j 1).val = (j 1).val; omega
theorem emb_zero3 {A B C : ℕ} (inb) (j : (⟨3, ![A, B, C]⟩ : Shape).Idx) :
    (Rect.unit (s := (⟨3, ![A, B, C]⟩ : Shape)) ![0, 0, 0] (⟨3, ![A, B, C]⟩ : Shape).size inb).emb j = j := by
  funext a
  apply Fin.ext
  match a with
  | 0 => show 0 + 1 * (j 0).val = (j 0).val; omega
  | 1 => show 0 + 1 * (j 1).val = (j 1).val; omega
  | 2 => show 0 + 1 * (j 2).val = (j 2).val; omega

theorem step_load_x {Q : α → sProp 𝕄} {O T R : sProp 𝕄} {off : Fin 2 → ℕ} {inb} (hoff : off = ![0, 0]) {hl} {k : Vec F S128x4096 .f32 → PR F α}
    (h : iprop(Pers m ρ K ∗ O ∗ T ∗ xPts m ρ c ∗ R) ⊢ WP c (k (xstg m ρ c)) Q) :
    iprop(Pers m ρ K ∗ O ∗ T ∗ xPts m ρ c ∗ R)
      ⊢ WP c (Prog.lift (.load xM (Rect.unit (s := S128x4096) off S128x4096.size inb).toLoadRect hl) >>= k) Q := by
  subst hoff
  rw [Prog.lift, Prog.bind_op]
  simp only [Prog.bind_ret]
  unfold xPts at *
  have e : (xM.access (Rect.unit (s := S128x4096) ![0, 0] S128x4096.size inb)).read (Elt F) (xstg m ρ c) = xstg m ρ c := by
    funext j
    exact congrArg (xstg m ρ c) (emb_zero inb j)
  iintro ⟨HP, HO, HT, Hx, HR⟩
  iapply (wp_load_rect 𝒱₀ (c : Thread nD τ) none Set.univ (m := xM) (S := Finset.univ) (f := xstg m ρ c)
    (r := Rect.unit (s := S128x4096) ![0, 0] S128x4096.size inb) (Finset.subset_univ _)) $$ Hx
  iintro Hx
  simp only [e]
  iapply h
  isplitl [HP]; · iexact HP
  isplitl [HO]; · iexact HO
  isplitl [HT]; · iexact HT
  isplitl [Hx] <;> iassumption

/-! ## The maxima -/

/-- The sendings of the tile from the `n`-th neighbour on: the rights, and slot `c` of each. -/
def AmAhead (c : Dev nD) (n : ℕ) : sProp 𝕄 := bigSep (Finset.Ico n 31) fun d =>
  iprop(dutyTok ER (saC c d) 0 c ∗ dutyTok ER (raC (nb d c) c.val) 0 c ∗ ∃ f, gPts (nb d c) c.val f)
/-- Before the tile is made. -/
def AmPre (c : Dev nD) : sProp 𝕄 := iprop((∃ f, aPts c fullShare f) ∗ AmAhead (F := F) c 0)
/-- Before the sending to the `n`-th neighbour. -/
def AmSt (c : Dev nD) (n : ℕ) : sProp 𝕄 :=
  iprop(aPts c (shareDrop fullShare 31) (AM m ρ c) ∗ AmAhead c n ∗ bigSep (Finset.Ico n 31) (fun d => aPts c (shareTokN fullShare d) (AM m ρ c))
    ∗ bigSep (Finset.range n) fun d => cred (tallyAt (saC c d) () NA))

section
variable {off : Fin 2 → ℕ} {inb : ∀ a, off a + S8x128.size a ≤ S8x128.size a}

theorem step_peek_a {Q : α → sProp 𝕄} {O R : sProp 𝕄} {hl} {G : PR F α}
    (h : iprop(Pers m ρ K ∗ O ∗ AmPre c ∗ R) ⊢ WP c G Q) :
    iprop(Pers m ρ K ∗ O ∗ AmPre c ∗ R)
      ⊢ WP c ((Prog.lift (.load aM (Rect.unit (s := S8x128) off S8x128.size inb).toLoadRect hl) : PR F (Vec F S8x128 .f32)) >>= fun _ => G) Q := by
  rw [Prog.lift, Prog.bind_op]
  simp only [Prog.bind_ret]
  unfold AmPre aPts at *
  iintro ⟨HP, HO, ⟨⟨%f, Ha⟩, Hrest⟩, HR⟩
  iapply (wp_load_rect 𝒱₀ (c : Thread nD τ) none Set.univ (m := aM) (S := Finset.univ) (f := f)
    (r := Rect.unit (s := S8x128) off S8x128.size inb) (Finset.subset_univ _)) $$ Ha
  iintro Ha
  iapply h
  isplitl [HP]; · iexact HP
  isplitl [HO]; · iexact HO
  isplitr [HR]
  · isplitl [Ha]; · iexists f; iexact Ha
    iexact Hrest
  iexact HR

theorem a_store (hoff : off = ![0, 0]) (f w) : (aM.access (Rect.unit (s := S8x128) off S8x128.size inb)).write (Elt F) f w Finset.univ = w := by
  subst hoff
  funext j
  have e : w = (aM.access (Rect.unit (s := S8x128) ![0, 0] S8x128.size inb)).read (Elt F) w := by
    funext i
    exact congrArg w (emb_zero inb i).symm
  have hj : j ∈ (aM.access (Rect.unit (s := S8x128) ![0, 0] S8x128.size inb)).set := by
    rw [show (aM.access (Rect.unit (s := S8x128) ![0, 0] S8x128.size inb)).set = (Rect.unit (s := S8x128) ![0, 0] S8x128.size inb).toLoadRect.set from
      View.set_slice_whole _ _]
    refine ((Rect.unit (s := S8x128) ![0, 0] S8x128.size inb).toLoadRect.mem_set).mpr fun a => ⟨(j a).val, (j a).isLt, ?_⟩
    match a with
    | 0 => show (j 0).val = 0 + 1 * (j 0).val; omega
    | 1 => show (j 1).val = 0 + 1 * (j 1).val; omega
  conv_lhs => rw [e]
  exact write_read_on _ _ _ j hj

theorem step_put_a {Q : α → sProp 𝕄} {O R : sProp 𝕄} (hoff : off = ![0, 0]) {v : Vec F S8x128 .f32} (hv : v = AM m ρ c) {h1 h2} {k : PUnit → PR F α}
    (h : iprop(Pers m ρ K ∗ O ∗ AmSt m ρ c 0 ∗ R) ⊢ WP c (k ⟨⟩) Q) :
    iprop(Pers m ρ K ∗ O ∗ AmPre c ∗ R)
      ⊢ WP c (Prog.lift (.store aM (Rect.unit (s := S8x128) off S8x128.size inb) v Finset.univ h1 h2) >>= k) Q := by
  subst hv
  rw [Prog.lift, Prog.bind_op]
  simp only [Prog.bind_ret]
  unfold AmPre AmSt at *
  iintro ⟨HP, HO, ⟨⟨%f, Ha⟩, Hrest⟩, HR⟩
  unfold aPts
  iapply (wp_store 𝒱₀ (c : Thread nD τ) none Set.univ (m := aM) (S := Finset.univ) (f := f)
    (r := Rect.unit (s := S8x128) off S8x128.size inb) (Mk := Finset.univ) (w := AM m ρ c) (Finset.subset_univ _)) $$ Ha
  iintro Ha
  rw [a_store hoff]
  ihave Ha := (Transfers.pointsTo_toks_range (ℓ := aL c) (S := Finset.univ) (f := AM m ρ c) fullShare 31).1 $$ [Ha]
  · iexact Ha
  icases Ha with ⟨Ha, Hs⟩
  iapply h
  isplitl [HP]; · iexact HP
  isplitl [HO]; · iexact HO
  isplitr [HR]
  · unfold aPts
    isplitl [Ha]; · iexact Ha
    isplitl [Hrest]; · iexact Hrest
    isplitl [Hs]
    · rw [← Finset.range_eq_Ico]; iexact Hs
    rw [Finset.range_zero]
    rw [bigSep_empty]
    iempintro
  iexact HR

theorem step_load_a {Q : α → sProp 𝕄} {O R : sProp 𝕄} {n : ℕ} (hoff : off = ![0, 0]) {hl} {k : Vec F S8x128 .f32 → PR F α}
    (h : iprop(Pers m ρ K ∗ O ∗ AmSt m ρ c n ∗ R) ⊢ WP c (k (AM m ρ c)) Q) :
    iprop(Pers m ρ K ∗ O ∗ AmSt m ρ c n ∗ R)
      ⊢ WP c (Prog.lift (.load aM (Rect.unit (s := S8x128) off S8x128.size inb).toLoadRect hl) >>= k) Q := by
  subst hoff
  rw [Prog.lift, Prog.bind_op]
  simp only [Prog.bind_ret]
  unfold AmSt at *
  have e : (aM.access (Rect.unit (s := S8x128) ![0, 0] S8x128.size inb)).read (Elt F) (AM m ρ c) = AM m ρ c := by
    funext j
    exact congrArg (AM m ρ c) (emb_zero inb j)
  iintro ⟨HP, HO, ⟨Ha, Hrest⟩, HR⟩
  iapply (wp_load_rect 𝒱₀ (c : Thread nD τ) none Set.univ (m := aM) (S := Finset.univ) (f := AM m ρ c) (q := shareDrop fullShare 31)
    (r := Rect.unit (s := S8x128) ![0, 0] S8x128.size inb) (Finset.subset_univ _)) $$ [Ha]
  · unfold aPts; iexact Ha
  iintro Ha
  simp only [e]
  iapply h
  isplitl [HP]; · iexact HP
  isplitl [HO]; · iexact HO
  isplitr [HR]
  · isplitl [Ha]; · unfold aPts; iexact Ha
    iexact Hrest
  iexact HR

end

section
variable {off : Fin 3 → ℕ} {inb : ∀ a, off a + S1x8x128.size a ≤ S32x8x128.size a}

/-- The sending of the tile to the `n`-th neighbour. -/
theorem step_send_a {Q : α → sProp 𝕄} {R : sProp 𝕄} {n : ℕ} (hn : n < 31) {dst : Dev nD} (hdst : dst = nb n c) {i2 sq}
    (hoff : off = ![c.val, 0, 0]) {sS : SemLoc sig} (hS : sS = dq (68 + n)) {sR : SemLoc sig} (hR : sR = dq (100 + c.val))
    {hsc h1 h2 h3} {k : PUnit → PR F α}
    (h : iprop(Pers m ρ K ∗ Ow c (n + 1) 32 31 ∗ AmSt m ρ c (n + 1) ∗ R) ⊢ WP c (k ⟨⟩) Q) :
    iprop(Pers m ρ K ∗ Ow c n 32 31 ∗ AmSt m ρ c n ∗ R)
      ⊢ WP c (Prog.lift (.enqueueDma aM
          (.remote (Dev.tc dst) ((gM.slice (Rect.unit (s := S32x8x128) off S1x8x128.size inb) i2).squeeze S8x128 sq)
            sS hsc) sR h1 h2 h3) >>= k) Q := by
  subst hdst hS hR
  have hc : c.val < 32 := dev_lt c
  have hcn : c.val ≠ (nb n c).val := fun e => nb_ne hn c (Fin.ext e.symm)
  rw [Prog.lift, Prog.bind_op]
  simp only [Prog.bind_ret]
  unfold Ow AmSt AmAhead at *
  rw [range_snoc] at h
  rw [bigSep_Ico_succ_bot hn, bigSep_Ico_succ_bot hn]
  iintro ⟨#HP, ⟨%W, HO⟩, ⟨Hk, ⟨⟨Ht, Ht', ⟨%f, Hg⟩⟩, Hrest⟩, ⟨Ha, Hs⟩, Hd⟩, HR⟩
  iapply (Rounds.wp_send_pointsTo 𝒱₀ ER (Rd m ρ) (c : Thread nD τ) none (c' := (nb n c : Thread nD τ)) (κ₁ := K (saC c n)) (κ₂ := K (raC (nb n c) c.val))
      (sS := dq (68 + n)) (sem := dq (100 + c.val)) (r₁ := 0) (r₂ := 0) (d₁ := c) (d₂ := c) (fd := f) (fs := AM m ρ c) (q := shareTokN fullShare n)
      (src := aM)
      (dst := (gM.slice (Rect.unit (s := S32x8x128) off S1x8x128.size inb) i2).squeeze S8x128 sq)
      (by rw [duties_eq, duty_sa c hn]; exact Finset.mem_singleton_self _)
      (by rw [duties_eq, duty_ra (nb n c) hc hcn, dv_dev]; exact Finset.mem_singleton_self _) () () NA (by unfold dq; exact credit_g)
      ((amount_eq m ρ c _ _ c).trans (by rw [role_sa (by omega)]; rfl)) ((amount_eq m ρ (nb n c) _ _ c).trans (by rw [role_ra hc]; rfl))
      (Od c (n + 1) 32 31) (Od_ra c 32 31 hn) (W := W) (by
        rw [payload_eq, role_sa (by omega)]
        show _ ⊢ aPts c (shareTokN fullShare n) (AM m ρ c)
        unfold aPts
        exact view_pts (ℓ := aL c) (g := AM m ρ c) (View.set_whole _) (fun _ _ => rfl)) (by
        rw [payload_eq, role_ra hc]
        show _ ⊢ gPts (nb n c) c.val (GB m ρ)
        unfold gPts
        exact view_pts (ℓ := gL (nb n c)) (g := GB m ρ) (g_set (inb := inb) (i2 := i2) (sq := sq) hoff)
          (g_land (inb := inb) (i2 := i2) (sq := sq) m ρ (c := c) (n := nb n c) hoff f))) $$ [HO Ha Hg Ht Ht']
  · isplitr; · iapply (inv_of m ρ K (mem_dq c (n := 68 + n) (by omega) (by omega))); iexact HP
    isplitr; · iapply (inv_of m ρ K (mem_dq (nb n c) (n := 100 + c.val) (by omega) (by omega))); iexact HP
    isplitl [Ha]
    · unfold aPts
      iapply (view_pts (ℓ := aL c) (f := AM m ρ c) (show Finset.univ = aM.view.set from (View.set_whole _).symm) (fun _ _ => rfl)); iexact Ha
    isplitl [Hg]
    · rw [g_set hoff]; unfold gPts; iexact Hg
    isplitl [HO]; · iexact HO
    isplitl [Ht]; · iexact Ht
    isplitr; · iapply (reached_of m ρ K (mem_dq c (n := 68 + n) (by omega) (by omega))); iexact HP
    isplitl [Ht']; · iexact Ht'
    iapply (reached_of m ρ K (mem_dq (nb n c) (n := 100 + c.val) (by omega) (by omega))); iexact HP
  iintro ⟨Hc, HO⟩
  iapply h
  isplitr; · iexact HP
  isplitl [HO]; · iexists W; iexact HO
  isplitr [HR]
  · isplitl [Hk]; · iexact Hk
    isplitl [Hrest]; · iexact Hrest
    isplitl [Hs]; · iexact Hs
    isplitl [Hc] <;> iassumption
  iexact HR

/-- The device's own slot of the gathered maxima, before it is written. -/
def OwnG (c : Dev nD) : sProp 𝕄 := iprop(∃ f, gPts (F := F) c c.val f)

theorem step_peek_g {Q : α → sProp 𝕄} {O T R : sProp 𝕄} (hoff : off = ![c.val, 0, 0]) {hl} {G : PR F α}
    (h : iprop(Pers m ρ K ∗ O ∗ T ∗ OwnG c ∗ R) ⊢ WP c G Q) :
    iprop(Pers m ρ K ∗ O ∗ T ∗ OwnG c ∗ R)
      ⊢ WP c ((Prog.lift (.load gM (Rect.unit (s := S32x8x128) off S1x8x128.size inb).toLoadRect hl) : PR F (Vec F S1x8x128 .f32)) >>= fun _ => G) Q := by
  rw [Prog.lift, Prog.bind_op]
  simp only [Prog.bind_ret]
  unfold OwnG gPts at *
  iintro ⟨HP, HO, HT, ⟨%f, Hg⟩, HR⟩
  iapply (wp_load_rect 𝒱₀ (c : Thread nD τ) none Set.univ (m := gM) (S := slot 32 8 128 c.val) (f := f)
    (r := Rect.unit (s := S32x8x128) off S1x8x128.size inb) (by rw [g_acc hoff])) $$ Hg
  iintro Hg
  iapply h
  isplitl [HP]; · iexact HP
  isplitl [HO]; · iexact HO
  isplitl [HT]; · iexact HT
  isplitr [HR]
  · iexists f; iexact Hg
  iexact HR

theorem step_put_g {Q : α → sProp 𝕄} {O T R : sProp 𝕄} (hoff : off = ![c.val, 0, 0]) {h1 h2} {k : PUnit → PR F α}
    (h : iprop(Pers m ρ K ∗ O ∗ T ∗ gPts c c.val (GB m ρ) ∗ R) ⊢ WP c (k ⟨⟩) Q) :
    iprop(Pers m ρ K ∗ O ∗ T ∗ OwnG c ∗ R)
      ⊢ WP c (Prog.lift (.store gM (Rect.unit (s := S32x8x128) off S1x8x128.size inb) (k0_pay94 (AM m ρ c)) Finset.univ h1 h2) >>= k) Q := by
  rw [Prog.lift, Prog.bind_op]
  simp only [Prog.bind_ret]
  unfold OwnG gPts at *
  iintro ⟨HP, HO, HT, ⟨%f, Hg⟩, HR⟩
  iapply (wp_store 𝒱₀ (c : Thread nD τ) none Set.univ (m := gM) (S := slot 32 8 128 c.val) (f := f)
    (r := Rect.unit (s := S32x8x128) off S1x8x128.size inb) (Mk := Finset.univ) (w := k0_pay94 (AM m ρ c))
    (by rw [View.setOn_univ, g_acc hoff])) $$ Hg
  iintro Hg
  iapply h
  isplitl [HP]; · iexact HP
  isplitl [HO]; · iexact HO
  isplitl [HT]; · iexact HT
  isplitr [HR]
  · iapply (view_pts (ℓ := gL c) (S := slot 32 8 128 c.val) (g := GB m ρ) rfl
      (fun i hi => g_store (inb := inb) m ρ hoff f i (by rw [g_acc (inb := inb) hoff]; exact hi)))
    iexact Hg
  iexact HR

end

end Cert.Exchange
-- ==== Proof.Landing.lean ====
/-
# Landings, the result, and the ends of the sendings
-/

module

public import proofs.«01_k».proof.Proof.Maxima

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg)
variable (K : GSem nD τ sig → ℕ) {c : Dev nD} {α : Type}

/-- A cell no further round of which is paid is closed, its counter at zero. -/
theorem close_cell {Q : α → sProp 𝕄} {n r : ℕ} (hn2 : 2 ≤ n) (hn : n < 132) (hd : ∀ r', r ≤ r' → duty c r' (role (dq n)) = ∅) {p : PR F α} :
    iprop(Pers m ρ K ∗ atPos ER ((c : Thread nD τ), dq n) r ∅ 0) ⊢ iprop((semVal ((c : Thread nD τ), dq n) 0 -∗ WP c p Q) -∗ WP c p Q) := by
  iintro ⟨#HP, Ha⟩ Hk
  imod (Rounds.cell_close (g := ((c : Thread nD τ), dq n)) ER (Rd m ρ) (Set.mem_univ (K ((c : Thread nD τ), dq n))) (fun h => h) (R := r) hd) $$ [Ha] with Hz
  · isplitr; · iapply (inv_of m ρ K (mem_dq c hn2 hn)); iexact HP
    iexact Ha
  iapply Hk
  iexact Hz

theorem no_duty {n r : ℕ} (hr : 1 ≤ r) (h : (role (dq n)).1 ≠ .w) : ∀ r', r ≤ r' → duty c r' (role (dq n)) = ∅ :=
  duty_done c (.inr ⟨hr, h⟩)

/-! ## Landings -/

/-- One landing awaited: its place and its credit. -/
def AwR (c : Dev nD) (s : ℕ) : sProp 𝕄 := iprop(atPos ER (rdC c s) 0 ∅ 0 ∗ cred (tallyAt (rdC c s) () ND))
def AwG (c : Dev nD) (s : ℕ) : sProp 𝕄 := iprop(atPos ER (raC c s) 0 ∅ 0 ∗ cred (tallyAt (raC c s) () NA))
/-- One landed. -/
def InR (c : Dev nD) (s : ℕ) : sProp 𝕄 := iprop(rPts c s (RB m ρ c) ∗ semVal (rdC c s) 0)
def InG (c : Dev nD) (s : ℕ) : sProp 𝕄 := iprop(gPts c s (GB m ρ) ∗ semVal (raC c s) 0)

def RvSt (c : Dev nD) (n : ℕ) : sProp 𝕄 :=
  iprop((bigSep (Finset.Ico n 31) fun d => iprop(AwR c (nb d c).val ∗ AwG c (nb d c).val))
    ∗ bigSep (Finset.range n) fun d => iprop(InR m ρ c (nb d c).val ∗ InG m ρ c (nb d c).val))
/-- The chunk of the `n`-th neighbour has landed, its maximum not yet. -/
def RvMid (c : Dev nD) (n : ℕ) : sProp 𝕄 :=
  iprop((bigSep (Finset.Ico (n + 1) 31) fun d => iprop(AwR c (nb d c).val ∗ AwG c (nb d c).val))
    ∗ (InR m ρ c (nb n c).val ∗ AwG c (nb n c).val)
    ∗ bigSep (Finset.range n) fun d => iprop(InR m ρ c (nb d c).val ∗ InG m ρ c (nb d c).val))

theorem nb_val_ne {n : ℕ} (hn : n < 31) : (nb n c).val ≠ c.val := fun e => nb_ne hn c (Fin.ext e)

section
variable {off : Fin 3 → ℕ} {inb : ∀ a, off a + S1x128x256.size a ≤ S32x128x256.size a} {i2 : ∀ a, (Rect.unit (s := S32x128x256) off S1x128x256.size inb).stride a = 1}
  {sq : S1x128x256.Squeezes S128x256}

theorem step_recv {Q : α → sProp 𝕄} {R : sProp 𝕄} {n : ℕ} (hn : n < 31) {q : DmaSem sig}
    (hq : (SemLoc.dma q : SemLoc sig) = dq (36 + (nb n c).val)) {sp : Space} {s : Shape} {e : EltTy} {src : Memref sig .tc sp s e} {h1 h2} {k : PUnit → PR F α}
    (h : iprop(Pers m ρ K ∗ Ow c 31 32 31 ∗ RvMid m ρ c n ∗ R) ⊢ WP c (k ⟨⟩) Q) :
    iprop(Pers m ρ K ∗ Ow c 31 32 31 ∗ RvSt m ρ c n ∗ R)
      ⊢ WP c (Prog.lift (.waitDma2 q src ((rM.slice (Rect.unit (s := S32x128x256) off S1x128x256.size inb) i2).squeeze S128x256 sq) h1 h2) >>= k) Q := by
  have hs : (nb n c).val < 32 := dev_lt _
  unfold Ow RvSt RvMid AwR InR at *
  rw [Od_done] at *
  rw [bigSep_Ico_succ_bot hn]
  iintro ⟨#HP, ⟨%W, HO⟩, ⟨⟨⟨⟨Ha, Hc⟩, Hg⟩, Hrest⟩, Hd⟩, HR⟩
  iapply (step_wait m ρ K (n := 36 + (nb n c).val) (r := 0) (N := ND) (l := 2) (d := dv (nb n c).val) (by omega) (by omega) (duty_rd c hs (nb_val_ne hn))
    (by rw [role_rd hs]; rfl) (by rw [role_rd hs]; exact Nat.le_refl 2) (Above.zero 2) hq credit_r) $$ [HO Ha Hc]
  · isplitr; · iexact HP
    isplitl [HO]; · iexact HO
    isplitl [Hc] <;> iassumption
  iintro ⟨HO, Ha, -, Hpay⟩
  iapply (close_cell m ρ K (n := 36 + (nb n c).val) (r := 0 + 1) (by omega) (by omega) (no_duty le_rfl (by rw [role_rd hs]; exact CellKind.noConfusion))) $$ [Ha]
  · isplitr; · iexact HP
    iexact Ha
  iintro Hz
  iapply h
  isplitr; · iexact HP
  isplitl [HO]; · iexact HO
  isplitr [HR]
  · isplitl [Hrest]; · iexact Hrest
    isplitr [Hd]
    · isplitr [Hg]
      · isplitl [Hpay]
        · simp only [role_rd hs, pay]
          iexact Hpay
        iexact Hz
      iexact Hg
    iexact Hd
  iexact HR

end

section
variable {off : Fin 3 → ℕ} {inb : ∀ a, off a + S1x8x128.size a ≤ S32x8x128.size a} {i2 : ∀ a, (Rect.unit (s := S32x8x128) off S1x8x128.size inb).stride a = 1}
  {sq : S1x8x128.Squeezes S8x128}

theorem step_recv_g {Q : α → sProp 𝕄} {R : sProp 𝕄} {n : ℕ} (hn : n < 31) {q : DmaSem sig}
    (hq : (SemLoc.dma q : SemLoc sig) = dq (100 + (nb n c).val)) {sp : Space} {s : Shape} {e : EltTy} {src : Memref sig .tc sp s e} {h1 h2} {k : PUnit → PR F α}
    (h : iprop(Pers m ρ K ∗ Ow c 31 32 31 ∗ RvSt m ρ c (n + 1) ∗ R) ⊢ WP c (k ⟨⟩) Q) :
    iprop(Pers m ρ K ∗ Ow c 31 32 31 ∗ RvMid m ρ c n ∗ R)
      ⊢ WP c (Prog.lift (.waitDma2 q src ((gM.slice (Rect.unit (s := S32x8x128) off S1x8x128.size inb) i2).squeeze S8x128 sq) h1 h2) >>= k) Q := by
  have hs : (nb n c).val < 32 := dev_lt _
  unfold RvSt at h
  rw [range_snoc] at h
  unfold Ow RvMid AwG at *
  rw [Od_done] at *
  iintro ⟨#HP, ⟨%W, HO⟩, ⟨Hrest, ⟨Hr, ⟨Ha, Hc⟩⟩, Hd⟩, HR⟩
  iapply (step_wait m ρ K (n := 100 + (nb n c).val) (r := 0) (N := NA) (l := 2) (d := dv (nb n c).val) (by omega) (by omega) (duty_ra c hs (nb_val_ne hn))
    (by rw [role_ra hs]; rfl) (by rw [role_ra hs]; exact Nat.le_refl 2) (Above.zero 2) hq credit_g) $$ [HO Ha Hc]
  · isplitr; · iexact HP
    isplitl [HO]; · iexact HO
    isplitl [Hc] <;> iassumption
  iintro ⟨HO, Ha, -, Hpay⟩
  iapply (close_cell m ρ K (n := 100 + (nb n c).val) (r := 0 + 1) (by omega) (by omega) (no_duty le_rfl (by rw [role_ra hs]; exact CellKind.noConfusion))) $$ [Ha]
  · isplitr; · iexact HP
    iexact Ha
  iintro Hz
  iapply h
  isplitr; · iexact HP
  isplitl [HO]; · iexact HO
  isplitr [HR]
  · isplitl [Hrest]; · iexact Hrest
    isplitr [Hd]
    · isplitl [Hr]; · iexact Hr
      unfold InG
      isplitl [Hpay]
      · simp only [role_ra hs, pay]
        iexact Hpay
      iexact Hz
    iexact Hd
  iexact HR

end

/-! ## The result -/

/-- The first `128 n` rows of the result are written. -/
def OutSt (c : Dev nD) (n : ℕ) : sProp 𝕄 :=
  iprop((rL c ↦{fullShare} RB m ρ c) ∗ (gL c ↦{fullShare} GB m ρ)
    ∗ ∃ f, ⌜∀ i : S4096x256.Idx, (i 0).val < 128 * n → f i = outB m ρ c i⌝ ∗ (((c : Thread nD τ).loc cc0_stg1_0) ↦{fullShare} f))

theorem step_load_g {Q : α → sProp 𝕄} {O R : sProp 𝕄} {n : ℕ} {off : Fin 3 → ℕ} {inb} (hoff : off = ![0, 0, 0]) {hl} {k : Vec F S32x8x128 .f32 → PR F α}
    (h : iprop(Pers m ρ K ∗ O ∗ OutSt m ρ c n ∗ R) ⊢ WP c (k (GB m ρ)) Q) :
    iprop(Pers m ρ K ∗ O ∗ OutSt m ρ c n ∗ R)
      ⊢ WP c (Prog.lift (.load gM (Rect.unit (s := S32x8x128) off S32x8x128.size inb).toLoadRect hl) >>= k) Q := by
  subst hoff
  rw [Prog.lift, Prog.bind_op]
  simp only [Prog.bind_ret]
  unfold OutSt at *
  have e : (gM.access (Rect.unit (s := S32x8x128) ![0, 0, 0] S32x8x128.size inb)).read (Elt F) (GB m ρ) = GB m ρ := by
    funext j
    exact congrArg (GB m ρ) (emb_zero3 inb j)
  iintro ⟨HP, HO, ⟨Hr, Hg, Ho⟩, HR⟩
  iapply (wp_load_rect 𝒱₀ (c : Thread nD τ) none Set.univ (m := gM) (S := Finset.univ) (f := GB m ρ) (q := fullShare)
    (r := Rect.unit (s := S32x8x128) ![0, 0, 0] S32x8x128.size inb) (Finset.subset_univ _)) $$ Hg
  iintro Hg
  simp only [e]
  iapply h
  isplitl [HP]; · iexact HP
  isplitl [HO]; · iexact HO
  isplitr [HR]
  · isplitl [Hr]; · iexact Hr
    isplitl [Hg] <;> iassumption
  iexact HR

theorem step_load_r {Q : α → sProp 𝕄} {O R : sProp 𝕄} {n : ℕ} (hn : n < 32) {off : Fin 3 → ℕ} {inb} (hoff : off = ![n, 0, 0]) {hl} {k : Vec F S1x128x256 .bf16 → PR F α}
    (h : iprop(Pers m ρ K ∗ O ∗ OutSt m ρ c n ∗ R) ⊢ WP c (k (RV m ρ c n)) Q) :
    iprop(Pers m ρ K ∗ O ∗ OutSt m ρ c n ∗ R)
      ⊢ WP c (Prog.lift (.load rM (Rect.unit (s := S32x128x256) off S1x128x256.size inb).toLoadRect hl) >>= k) Q := by
  rw [Prog.lift, Prog.bind_op]
  simp only [Prog.bind_ret]
  unfold OutSt at *
  iintro ⟨HP, HO, ⟨Hr, Ho⟩, HR⟩
  iapply (wp_load_rect 𝒱₀ (c : Thread nD τ) none Set.univ (m := rM) (S := Finset.univ) (f := RB m ρ c) (q := fullShare)
    (r := Rect.unit (s := S32x128x256) off S1x128x256.size inb) (Finset.subset_univ _)) $$ Hr
  iintro Hr
  simp only [r_read m ρ hoff hn c]
  iapply h
  isplitl [HP]; · iexact HP
  isplitl [HO]; · iexact HO
  isplitr [HR]
  · isplitl [Hr] <;> iassumption
  iexact HR

section
variable {off : Fin 2 → ℕ} {inb : ∀ a, off a + S128x256.size a ≤ S4096x256.size a}

theorem step_peek_o {Q : α → sProp 𝕄} {O R : sProp 𝕄} {n : ℕ} {hl} {G : PR F α}
    (h : iprop(Pers m ρ K ∗ O ∗ OutSt m ρ c n ∗ R) ⊢ WP c G Q) :
    iprop(Pers m ρ K ∗ O ∗ OutSt m ρ c n ∗ R)
      ⊢ WP c ((Prog.lift (.load oM (Rect.unit (s := S4096x256) off S128x256.size inb).toLoadRect hl) : PR F (Vec F S128x256 .f32)) >>= fun _ => G) Q := by
  rw [Prog.lift, Prog.bind_op]
  simp only [Prog.bind_ret]
  unfold OutSt at *
  iintro ⟨HP, HO, ⟨Hr, Hg, ⟨%f, %hf, Ho⟩⟩, HR⟩
  iapply (wp_load_rect 𝒱₀ (c : Thread nD τ) none Set.univ (m := oM) (S := Finset.univ) (f := f) (q := fullShare)
    (r := Rect.unit (s := S4096x256) off S128x256.size inb) (Finset.subset_univ _)) $$ Ho
  iintro Ho
  iapply h
  isplitl [HP]; · iexact HP
  isplitl [HO]; · iexact HO
  isplitr [HR]
  · isplitl [Hr]; · iexact Hr
    isplitl [Hg]; · iexact Hg
    iexists f
    isplitr; · ipureintro; exact hf
    iexact Ho
  iexact HR

/-- Row block `n` stored below the first `n` leaves the first `n + 1` row blocks. -/
theorem o_store {n : ℕ} (hn : n < 32) (hoff : off = ![128 * n, 0]) (f : S4096x256.Idx → F .f32)
    (hf : ∀ i : S4096x256.Idx, (i 0).val < 128 * n → f i = outB m ρ c i) :
    ∀ i : S4096x256.Idx, (i 0).val < 128 * (n + 1) →
      (oM.access (Rect.unit (s := S4096x256) off S128x256.size inb)).write (Elt F) f (OC m ρ c n) Finset.univ i = outB m ρ c i := by
  intro i hi
  subst hoff
  have e : OC m ρ c n = (oM.access (Rect.unit (s := S4096x256) ![128 * n, 0] S128x256.size inb)).read (Elt F) (outB m ρ c) := by
    funext j
    have h0 : (j 0).val < 128 := (j 0).isLt
    have e0 : ((Rect.unit (s := S4096x256) ![128 * n, 0] S128x256.size inb).emb j 0).val = 128 * n + (j 0).val := by
      show 128 * n + 1 * (j 0).val = _; omega
    have e1 : ((Rect.unit (s := S4096x256) ![128 * n, 0] S128x256.size inb).emb j 1) = j 1 := by
      apply Fin.ext; show 0 + 1 * (j 1).val = _; omega
    show OC m ρ c n j = OC m ρ c (((Rect.unit (s := S4096x256) ![128 * n, 0] S128x256.size inb).emb j 0).val / 128) (ix2 _ _)
    rw [show (((Rect.unit (s := S4096x256) ![128 * n, 0] S128x256.size inb).emb j 0).val / 128) = n by omega]
    refine congrArg (OC m ρ c n) ?_
    funext a
    match a with
    | 0 => apply Fin.ext; show (j 0).val = ((Rect.unit (s := S4096x256) ![128 * n, 0] S128x256.size inb).emb j 0).val % 128; omega
    | 1 => exact e1.symm
  rw [e, View.write_read_eq_piecewise]
  by_cases hm : i ∈ (oM.access (Rect.unit (s := S4096x256) ![128 * n, 0] S128x256.size inb)).set
  · exact Finset.piecewise_eq_of_mem _ _ _ hm
  refine (Finset.piecewise_eq_of_notMem _ _ _ hm).trans (hf i ?_)
  by_contra hlt
  apply hm
  rw [show (oM.access (Rect.unit (s := S4096x256) ![128 * n, 0] S128x256.size inb)).set = (Rect.unit (s := S4096x256) ![128 * n, 0] S128x256.size inb).toLoadRect.set from
    View.set_slice_whole _ _]
  refine ((Rect.unit (s := S4096x256) ![128 * n, 0] S128x256.size inb).toLoadRect.mem_set).mpr fun a => ?_
  match a with
  | 0 => exact ⟨(i 0).val - 128 * n, by show _ < 128; omega, by show (i 0).val = 128 * n + 1 * ((i 0).val - 128 * n); omega⟩
  | 1 => exact ⟨(i 1).val, (i 1).isLt, by show (i 1).val = 0 + 1 * (i 1).val; omega⟩

theorem step_put_o {Q : α → sProp 𝕄} {O R : sProp 𝕄} {n : ℕ} (hn : n < 32) (hoff : off = ![128 * n, 0]) {v : Vec F S128x256 .f32} (hv : v = OC m ρ c n)
    {h1 h2} {k : PUnit → PR F α} (h : iprop(Pers m ρ K ∗ O ∗ OutSt m ρ c (n + 1) ∗ R) ⊢ WP c (k ⟨⟩) Q) :
    iprop(Pers m ρ K ∗ O ∗ OutSt m ρ c n ∗ R)
      ⊢ WP c (Prog.lift (.store oM (Rect.unit (s := S4096x256) off S128x256.size inb) v Finset.univ h1 h2) >>= k) Q := by
  subst hv
  rw [Prog.lift, Prog.bind_op]
  simp only [Prog.bind_ret]
  unfold OutSt at *
  iintro ⟨HP, HO, ⟨Hr, Hg, ⟨%f, %hf, Ho⟩⟩, HR⟩
  iapply (wp_store 𝒱₀ (c : Thread nD τ) none Set.univ (m := oM) (S := Finset.univ) (f := f)
    (r := Rect.unit (s := S4096x256) off S128x256.size inb) (Mk := Finset.univ) (w := OC m ρ c n) (Finset.subset_univ _)) $$ Ho
  iintro Ho
  iapply h
  isplitl [HP]; · iexact HP
  isplitl [HO]; · iexact HO
  isplitr [HR]
  · isplitl [Hr]; · iexact Hr
    isplitl [Hg]; · iexact Hg
    iexists _
    isplitr
    swap; · iexact Ho
    ipureintro
    exact o_store m ρ hn hoff f hf
  iexact HR

end

/-! ## The sendings are complete -/

/-- Before the wait for the sending of chunk `n`. -/
def SdSt (c : Dev nD) (n : ℕ) : sProp 𝕄 :=
  iprop((bigSep (Finset.Ico n 32) fun k => iprop(atPos ER (sdC c k) 0 ∅ 0 ∗ if k = c.val then yPts c k (YB m ρ c) else cred (tallyAt (sdC c k) () ND)))
    ∗ bigSep (Finset.range n) fun k => iprop(yPts c k (YB m ρ c) ∗ semVal (sdC c k) 0))

theorem step_sent {Q : α → sProp 𝕄} {R : sProp 𝕄} {n : ℕ} (hn : n < 32) (hne : n ≠ c.val) {q : DmaSem sig}
    (hq : (SemLoc.dma q : SemLoc sig) = dq (4 + n)) {sp : Space} {s : Shape} {e : EltTy} {src : Memref sig .tc sp s e}
    {off : Fin 3 → ℕ} {inb : ∀ a, off a + S1x128x256.size a ≤ S32x128x256.size a} {i2 : ∀ a, (Rect.unit (s := S32x128x256) off S1x128x256.size inb).stride a = 1}
    {sq : S1x128x256.Squeezes S128x256} {h1 h2} {k : PUnit → PR F α}
    (h : iprop(Pers m ρ K ∗ Ow c 31 32 31 ∗ SdSt m ρ c (n + 1) ∗ R) ⊢ WP c (k ⟨⟩) Q) :
    iprop(Pers m ρ K ∗ Ow c 31 32 31 ∗ SdSt m ρ c n ∗ R)
      ⊢ WP c (Prog.lift (.waitDma2 q src ((yM.slice (Rect.unit (s := S32x128x256) off S1x128x256.size inb) i2).squeeze S128x256 sq) h1 h2) >>= k) Q := by
  unfold Ow SdSt at *
  rw [range_snoc] at h
  rw [Od_done] at *
  rw [bigSep_Ico_succ_bot hn]
  simp only [if_neg hne]
  iintro ⟨#HP, ⟨%W, HO⟩, ⟨⟨⟨Ha, Hc⟩, Hrest⟩, Hd⟩, HR⟩
  iapply (step_wait m ρ K (n := 4 + n) (r := 0) (N := ND) (l := 2) (d := c) (by omega) (by omega) (duty_sd c hn hne)
    (by rw [role_sd hn]; rfl) (by rw [role_sd hn]; exact Nat.zero_le 2) (Above.zero 2) hq credit_y) $$ [HO Ha Hc]
  · isplitr; · iexact HP
    isplitl [HO]; · iexact HO
    isplitl [Hc] <;> iassumption
  iintro ⟨HO, Ha, -, Hpay⟩
  iapply (close_cell m ρ K (n := 4 + n) (r := 0 + 1) (by omega) (by omega) (no_duty le_rfl (by rw [role_sd hn]; exact CellKind.noConfusion))) $$ [Ha]
  · isplitr; · iexact HP
    iexact Ha
  iintro Hz
  iapply h
  isplitr; · iexact HP
  isplitl [HO]; · iexact HO
  isplitr [HR]
  · isplitl [Hrest]; · iexact Hrest
    isplitr [Hd]
    · isplitl [Hpay]
      · simp only [role_sd hn, pay]
        iexact Hpay
      iexact Hz
    iexact Hd
  iexact HR

/-- The wait for chunk `n`, unless it is the device's own. -/
theorem step_sent_if {Q : α → sProp 𝕄} {R : sProp 𝕄} {n : ℕ} (hn : n < 32) {P : Prop} [Decidable P] (hP : P ↔ n ≠ c.val)
    {p : P → PR F α} {G : PR F α}
    (h : iprop(Pers m ρ K ∗ Ow c 31 32 31 ∗ SdSt m ρ c (n + 1) ∗ R) ⊢ WP c G Q)
    (hs : ∀ hp : P, n ≠ c.val → (iprop(Pers m ρ K ∗ Ow c 31 32 31 ∗ SdSt m ρ c (n + 1) ∗ R) ⊢ WP c G Q)
      → (iprop(Pers m ρ K ∗ Ow c 31 32 31 ∗ SdSt m ρ c n ∗ R) ⊢ WP c (p hp) Q)) :
    iprop(Pers m ρ K ∗ Ow c 31 32 31 ∗ SdSt m ρ c n ∗ R) ⊢ WP c (dite P p (fun _ => G)) Q := by
  by_cases hp : P
  · rw [dif_pos hp]; exact hs hp (hP.mp hp) h
  have e : n = c.val := by by_contra hne; exact hp (hP.mpr hne)
  rw [dif_neg hp]
  unfold SdSt at *
  rw [range_snoc] at h
  rw [bigSep_Ico_succ_bot hn]
  simp only [if_pos e]
  iintro ⟨#HP, HO, ⟨⟨⟨Ha, Hy⟩, Hrest⟩, Hd⟩, HR⟩
  iapply (close_cell m ρ K (n := 4 + n) (r := 0) (by omega) (by omega) (fun r _ => by rw [role_sd hn]; exact if_neg fun hh => hh.2 e)) $$ [Ha]
  · isplitr; · iexact HP
    iexact Ha
  iintro Hz
  iapply h
  isplitr; · iexact HP
  isplitl [HO]; · iexact HO
  isplitr [HR]
  · isplitl [Hrest]; · iexact Hrest
    isplitr [Hd]
    · isplitl [Hy] <;> iassumption
    iexact Hd
  iexact HR

/-- Before the wait for the sending of the tile to the `n`-th neighbour. -/
def SaSt (c : Dev nD) (n : ℕ) : sProp 𝕄 :=
  iprop((bigSep (Finset.Ico n 31) fun d => iprop(atPos ER (saC c d) 0 ∅ 0 ∗ cred (tallyAt (saC c d) () NA)))
    ∗ bigSep (Finset.range n) fun d => iprop(aPts c (shareTokN fullShare d) (AM m ρ c) ∗ semVal (saC c d) 0))

theorem step_sent_a {Q : α → sProp 𝕄} {R : sProp 𝕄} {n : ℕ} (hn : n < 31) {q : DmaSem sig}
    (hq : (SemLoc.dma q : SemLoc sig) = dq (68 + n)) {sp : Space} {s : Shape} {e : EltTy} {src : Memref sig .tc sp s e} {h1 h2} {k : PUnit → PR F α}
    (h : iprop(Pers m ρ K ∗ Ow c 31 32 31 ∗ SaSt m ρ c (n + 1) ∗ R) ⊢ WP c (k ⟨⟩) Q) :
    iprop(Pers m ρ K ∗ Ow c 31 32 31 ∗ SaSt m ρ c n ∗ R)
      ⊢ WP c (Prog.lift (.waitDma2 q src aM h1 h2) >>= k) Q := by
  have hs : n < 32 := by omega
  unfold Ow SaSt at *
  rw [range_snoc] at h
  rw [Od_done] at *
  rw [bigSep_Ico_succ_bot hn]
  iintro ⟨#HP, ⟨%W, HO⟩, ⟨⟨⟨Ha, Hc⟩, Hrest⟩, Hd⟩, HR⟩
  iapply (step_wait m ρ K (n := 68 + n) (r := 0) (N := NA) (l := 2) (d := c) (by omega) (by omega) (duty_sa c hn)
    (by rw [role_sa hs]; rfl) (by rw [role_sa hs]; exact Nat.zero_le 2) (Above.zero 2) hq credit_a) $$ [HO Ha Hc]
  · isplitr; · iexact HP
    isplitl [HO]; · iexact HO
    isplitl [Hc] <;> iassumption
  iintro ⟨HO, Ha, -, Hpay⟩
  iapply (close_cell m ρ K (n := 68 + n) (r := 0 + 1) (by omega) (by omega) (no_duty le_rfl (by rw [role_sa hs]; exact CellKind.noConfusion))) $$ [Ha]
  · isplitr; · iexact HP
    iexact Ha
  iintro Hz
  iapply h
  isplitr; · iexact HP
  isplitl [HO]; · iexact HO
  isplitr [HR]
  · isplitl [Hrest]; · iexact Hrest
    isplitr [Hd]
    · isplitl [Hpay]
      · simp only [role_sa hs, pay]
        iexact Hpay
      iexact Hz
    iexact Hd
  iexact HR

end Cert.Exchange
-- ==== Proof.Phases.lean ====
/-
# What a device holds from phase to phase

The exchange's body runs through phases: signals, chunks, maxima, landings, results, and the waits for what was sent. Each phase
works on one part of what the device holds. This file says what the whole is and how one phase's end becomes the next one's start.
-/
module

public import proofs.«01_k».proof.Proof.Weights
public import proofs.«01_k».proof.Proof.Chunks
public import proofs.«01_k».proof.Proof.Landing

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg)
variable (K : GSem nD τ sig → ℕ) {c : Dev nD} {α : Type}

/-! ## Running over devices -/

omit [FloatOps F] in
/-- Over all device numbers, or over all devices. -/
theorem all_dv (Φ : Dev nD → sProp 𝕄) : bigSep Finset.univ Φ = bigSep (Finset.range 32) fun k => Φ (dv k) := by
  have e : (Finset.univ : Finset (Dev nD)) = (Finset.range 32).image dv := by
    ext d
    simp only [Finset.mem_univ, Finset.mem_image, Finset.mem_range, true_iff]
    exact ⟨d.val, dev_lt d, dv_dev d⟩
  rw [e]
  refine bigSep_image_of_injOn (fun a ha b hb h => ?_) Φ
  have ha' : a < 32 := Finset.mem_range.mp ha
  have hb' : b < 32 := Finset.mem_range.mp hb
  have := congrArg Fin.val h
  rwa [dv_val_of_lt ha', dv_val_of_lt hb'] at this

/-- The other devices are the neighbours, -/
theorem others_eq (c : Dev nD) : (Finset.univ : Finset (Dev nD)).erase c = (Finset.range 31).image fun d => nb d c := by
  have hc := dev_lt c
  ext d
  have hd := dev_lt d
  simp only [Finset.mem_erase, Finset.mem_univ, and_true, Finset.mem_image, Finset.mem_range]
  constructor
  · intro h
    have hv : d.val ≠ c.val := fun e => h (Fin.ext e)
    refine ⟨(d.val + 31 - c.val) % 32, by omega, Fin.ext ?_⟩
    rw [nb_val]; omega
  · rintro ⟨n, hn, rfl⟩
    exact nb_ne hn c
/-- each once. -/
theorem nb_inj (c : Dev nD) : Set.InjOn (fun d => nb d c) (Finset.range 31 : Finset ℕ) := fun a ha b hb h => by
  have hc := dev_lt c
  have ha' : a < 31 := Finset.mem_range.mp ha
  have hb' : b < 31 := Finset.mem_range.mp hb
  have := congrArg Fin.val h
  dsimp only at this
  rw [nb_val, nb_val] at this
  omega

omit [FloatOps F] in
/-- Over the other devices, or over the neighbours. -/
theorem all_nb (c : Dev nD) (Φ : Dev nD → sProp 𝕄) : bigSep (Finset.univ.erase c) Φ = bigSep (Finset.range 31) fun d => Φ (nb d c) := by
  rw [others_eq]
  exact bigSep_image_of_injOn (nb_inj c) Φ

omit [FloatOps F] in
/-- Over the other devices, as over all numbers but one. -/
theorem all_others (c : Dev nD) (Φ : Dev nD → sProp 𝕄) :
    bigSep (Finset.univ.erase c) Φ = bigSep (Finset.range 32) fun k => if k = c.val then iprop(emp) else Φ (dv k) := by
  have e : (Finset.univ : Finset (Dev nD)).erase c = Finset.univ.filter fun d => d ≠ c := by
    ext d; simp only [Finset.mem_erase, Finset.mem_univ, and_true, Finset.mem_filter, true_and]
  rw [e, bigSep_filter, all_dv]
  refine bigSep_congr fun k hk => ?_
  have hk' : k < 32 := Finset.mem_range.mp hk
  by_cases h : k = c.val
  · rw [if_pos h, if_neg (fun hn => hn ((dv_eq_iff hk' c).mpr h))]; rfl
  · rw [if_neg h, if_pos (fun hn => h ((dv_eq_iff hk' c).mp hn))]

omit [FloatOps F] in
/-- All slots: the device's own and its neighbours'. -/
theorem all_slots (c : Dev nD) (Φ : ℕ → sProp 𝕄) :
    bigSep (Finset.range 32) Φ = iprop(Φ c.val ∗ bigSep (Finset.range 31) fun d => Φ (nb d c).val) := by
  have h : bigSep (Finset.range 32) Φ = bigSep Finset.univ fun d : Dev nD => Φ d.val := by
    rw [all_dv]
    exact bigSep_congr fun k hk => by rw [dv_val_of_lt (Finset.mem_range.mp hk)]
  rw [h, ← all_nb c fun d => Φ d.val]
  exact bigSep_univ_split c

omit [FloatOps F] in
/-- One run of numbers after another. -/
theorem range_append (a b : ℕ) (Φ : ℕ → sProp 𝕄) :
    bigSep (Finset.range (a + b)) Φ = iprop(bigSep (Finset.range a) Φ ∗ bigSep (Finset.range b) fun i => Φ (a + i)) := by
  induction b with
  | zero => rw [Finset.range_zero, bigSep_empty]; exact (BI.equiv_iff.mp sep_emp).symm
  | succ b ih =>
    rw [← Nat.add_assoc, range_snoc, ih, range_snoc b]
    have h (A B C : sProp 𝕄) : iprop(A ∗ B ∗ C) ⊢ iprop(B ∗ A ∗ C) := sep_left_comm.1
    exact BI.equiv_iff.mp ⟨h _ _ _, h _ _ _⟩

omit [FloatOps F] in
theorem mono_range {s : Finset ℕ} {Φ Ψ : ℕ → sProp 𝕄} (h : ∀ i, Φ i ⊢ Ψ i) : bigSep s Φ ⊢ bigSep s Ψ := bigSep_mono fun i _ => h i

omit [FloatOps F] in
/-- A buffer, slot by slot. -/
theorem by_slots {A B C : ℕ} {ℓ : Loc nD τ sig} {g : Buf (Elt F) ℓ} {S : ℕ → Finset (Idx ℓ)}
    (hS : (Finset.range A).biUnion S = Finset.univ) (hd : ∀ n k, n ≠ k → Disjoint (S n) (S k)) :
    (ℓ ↦{fullShare} g : sProp 𝕄) = bigSep (Finset.range A) fun n => ℓ ↦[S n]{fullShare} g := by
  rw [← pointsTo_biUnion _ _ (fun t _ t' _ h => hd t t' h), hS]

theorem r_all (c : Dev nD) : bigSep (Finset.range 32) (fun s => rPts (F := F) c s (RB m ρ c)) = (rL c ↦{fullShare} RB m ρ c : sProp 𝕄) :=
  (by_slots (A := 32) (B := 128) (C := 256) (slot_cover 32 128 256) fun _ _ h => slot_disjoint 32 128 256 h).symm
theorem g_all (c : Dev nD) : bigSep (Finset.range 32) (fun s => gPts (F := F) c s (GB m ρ)) = (gL c ↦{fullShare} GB m ρ : sProp 𝕄) :=
  (by_slots (A := 32) (B := 8) (C := 128) (slot_cover 32 8 128) fun _ _ h => slot_disjoint 32 8 128 h).symm
theorem y_all (c : Dev nD) : bigSep (Finset.range 32) (fun k => yPts (F := F) c k (YB m ρ c)) = (yL c ↦{fullShare} YB m ρ c : sProp 𝕄) :=
  (by_slots (A := 32) (B := 128) (C := 256) (slot_cover 32 128 256) fun _ _ h => slot_disjoint 32 128 256 h).symm

/-! ## The parts put aside -/

/-- For every chunk its place in the chunk buffer, and for a chunk that travels the right to send it and to deliver it. -/
def ChTok (c : Dev nD) : sProp 𝕄 := bigSep (Finset.range 32) fun k =>
  iprop((∃ f, yPts c k f) ∗ if k = c.val then iprop(∃ f, rPts c c.val f)
    else iprop(dutyTok ER (sdC c k) 0 c ∗ dutyTok ER (rdC (dv k) c.val) 0 c))
/-- The place of the tile, and the right to send it and to deliver it to every neighbour. -/
def AmTok (c : Dev nD) : sProp 𝕄 :=
  iprop((∃ f, aPts c fullShare f) ∗ bigSep (Finset.range 31) fun d => iprop(dutyTok ER (saC c d) 0 c ∗ dutyTok ER (raC (nb d c) c.val) 0 c))
/-- The places of the cells of what is sent, and of the cells no transfer uses. -/
def SdPos (c : Dev nD) : sProp 𝕄 := bigSep (Finset.range 32) fun k => atPos ER (sdC c k) 0 ∅ 0
def SaPos (c : Dev nD) : sProp 𝕄 := bigSep (Finset.range 31) fun d => atPos ER (saC c d) 0 ∅ 0
def Spare (c : Dev nD) : sProp 𝕄 := iprop(atPos ER (rdC c c.val) 0 ∅ 0 ∗ atPos ER (saC c 31) 0 ∅ 0 ∗ atPos ER (raC c c.val) 0 ∅ 0)
/-- The result buffer, at anything. -/
def Out0 (c : Dev nD) : sProp 𝕄 := iprop(∃ f : Buf (Elt F) ((c : Thread nD τ).loc cc0_stg1_0), ((c : Thread nD τ).loc cc0_stg1_0) ↦{fullShare} f)

def Tail (c : Dev nD) : sProp 𝕄 := iprop(RvSt m ρ c 0 ∗ SdPos c ∗ SaPos c ∗ Spare c ∗ Out0 c)

/-- What the signals leave alone. -/
def Rest0 (c : Dev nD) : sProp 𝕄 :=
  iprop((Wt m c 0 ∗ Free c 0 ∗ Free c 1) ∗ xPts m ρ c ∗ ChTok c ∗ AmTok c ∗ OwnG c ∗ Tail m ρ c)
/-- What the first load leaves alone. -/
def Rest1 (c : Dev nD) : sProp 𝕄 := iprop(semVal (barC c) 0 ∗ ChSt m ρ c 0 ∗ AmPre c ∗ OwnG c ∗ Tail m ρ c)
/-- What the chunks leave alone. -/
def Rest2 (c : Dev nD) : sProp 𝕄 := iprop(semVal (barC c) 0 ∗ xPts m ρ c ∗ AmPre c ∗ OwnG c ∗ Tail m ρ c)
/-- What the sending of the maxima leaves alone. -/
def Rest3 (c : Dev nD) : sProp 𝕄 :=
  iprop(semVal (barC c) 0 ∗ xPts m ρ c ∗ (Held m c 7 ∗ Held m c 6) ∗ (bigSep (Finset.range 32) (Done m ρ c)) ∗ Tail m ρ c)
/-- What the landings leave alone. -/
def Rest4 (c : Dev nD) : sProp 𝕄 :=
  iprop(semVal (barC c) 0 ∗ xPts m ρ c ∗ (Held m c 7 ∗ Held m c 6) ∗ (bigSep (Finset.range 32) (Done m ρ c))
    ∗ AmSt m ρ c 31 ∗ gPts c c.val (GB m ρ) ∗ SdPos c ∗ SaPos c ∗ Spare c ∗ Out0 c)
/-- The landing cells, closed. -/
def RvEnd (c : Dev nD) : sProp 𝕄 := bigSep (Finset.range 31) fun d => iprop(semVal (rdC c (nb d c).val) 0 ∗ semVal (raC c (nb d c).val) 0)
/-- Chunk `k`, kept or sent. -/
def Sent (c : Dev nD) (k : ℕ) : sProp 𝕄 := if k = c.val then yPts c k (YB m ρ c) else cred (tallyAt (sdC c k) () ND)
/-- What the results leave alone. -/
def Rest5 (c : Dev nD) : sProp 𝕄 :=
  iprop(semVal (barC c) 0 ∗ xPts m ρ c ∗ (Held m c 7 ∗ Held m c 6) ∗ (bigSep (Finset.range 32) (Sent m ρ c))
    ∗ AmSt m ρ c 31 ∗ RvEnd c ∗ SdPos c ∗ SaPos c ∗ Spare c)
/-- The result and the landing buffers after the last row block. -/
def OutEnd (c : Dev nD) : sProp 𝕄 :=
  iprop((rL c ↦{fullShare} RB m ρ c) ∗ (gL c ↦{fullShare} GB m ρ) ∗ (((c : Thread nD τ).loc cc0_stg1_0) ↦{fullShare} outB m ρ c))
/-- What the waits for the chunks leave alone. -/
def Rest6 (c : Dev nD) : sProp 𝕄 :=
  iprop(semVal (barC c) 0 ∗ xPts m ρ c ∗ (Held m c 7 ∗ Held m c 6) ∗ AmSt m ρ c 31 ∗ RvEnd c ∗ SaPos c ∗ Spare c ∗ OutEnd m ρ c)
/-- What the waits for the maxima leave alone. -/
def Rest7 (c : Dev nD) : sProp 𝕄 :=
  iprop(semVal (barC c) 0 ∗ xPts m ρ c ∗ (Held m c 7 ∗ Held m c 6) ∗ aPts c (shareDrop fullShare 31) (AM m ρ c) ∗ RvEnd c ∗ Spare c ∗ OutEnd m ρ c
    ∗ (yL c ↦{fullShare} YB m ρ c) ∗ bigSep (Finset.range 32) fun k => semVal (sdC c k) 0)

/-! ## From phase to phase -/

omit [FloatOps F] in
theorem got_chunks (c : Dev nD) [FloatOps F] :
    iprop((bigSep (Finset.univ.erase c) fun d : Dev nD => iprop(∃ f, rPts (F := F) d c.val f)) ∗ ChTok c) ⊢ ChSt m ρ c 0 := by
  unfold ChTok ChSt Ahead
  rw [all_others c fun d => iprop(∃ f, rPts (F := F) d c.val f), Nat.Ico_zero_eq_range, Finset.range_zero, bigSep_empty, ← bigSep_sep']
  refine BIBase.Entails.trans (mono_range (Ψ := fun k => iprop((∃ f, yPts c k f) ∗ Item (F := F) c k)) fun k => ?_) ?_
  · unfold Item
    by_cases h : k = c.val
    · simp only [if_pos h]
      iintro ⟨-, H⟩; iexact H
    · simp only [if_neg h]
      iintro ⟨Hr, Hy, Hs, Hd⟩
      isplitl [Hy]; · iexact Hy
      isplitl [Hs]; · iexact Hs
      isplitl [Hd]; · iexact Hd
      iexact Hr
  · iintro H
    isplitl; · iexact H
    iempintro

omit [FloatOps F] in
theorem got_maxima (c : Dev nD) [FloatOps F] :
    iprop((bigSep (Finset.univ.erase c) fun d : Dev nD => iprop(∃ f, gPts (F := F) d c.val f)) ∗ AmTok c) ⊢ AmPre (F := F) c := by
  unfold AmTok AmPre AmAhead
  rw [all_nb c fun d => iprop(∃ f, gPts (F := F) d c.val f), Nat.Ico_zero_eq_range]
  iintro ⟨Hg, Ha, Ht⟩
  isplitl [Ha]; · iexact Ha
  have h := BIBase.Entails.trans (Entails.of_eq (bigSep_sep' (Finset.range 31) (fun d => iprop(∃ f, gPts (F := F) (nb d c) c.val f))
    (fun d => iprop(dutyTok ER (saC c d) 0 c ∗ dutyTok ER (raC (nb d c) c.val) 0 c))).symm)
    (mono_range (Ψ := fun d => iprop(dutyTok ER (saC c d) 0 c ∗ dutyTok ER (raC (nb d c) c.val) 0 c ∗ ∃ f, gPts (F := F) (nb d c) c.val f)) fun d => by
      iintro ⟨Hg, Hs, Hd⟩
      isplitl [Hs]; · iexact Hs
      isplitl [Hd]; · iexact Hd
      iexact Hg)
  iapply h
  isplitl [Hg] <;> iassumption

/-- The barrier opened the other devices' landing slots. -/
theorem phase_barrier {G O : sProp 𝕄} (h : iprop(Pers m ρ K ∗ O ∗ (Wt m c 0 ∗ Free c 0 ∗ Free c 1) ∗ xPts m ρ c ∗ Rest1 m ρ c) ⊢ G) :
    iprop(Pers m ρ K ∗ O ∗ (semVal (barC c) 0 ∗ Got c) ∗ Rest0 m ρ c) ⊢ G := by
  refine BIBase.Entails.trans ?_ h
  unfold Rest0 Rest1 Got
  rw [bigSep_sep']
  iintro ⟨#HP, HO, ⟨Hb, Hr, Hg⟩, HW, Hx, HC, HA, HG, HT⟩
  ihave HC' := (got_chunks m ρ c) $$ [Hr HC]
  · isplitl [Hr] <;> iassumption
  ihave HA' := (got_maxima c) $$ [Hg HA]
  · isplitl [Hg] <;> iassumption
  isplitr; · iexact HP
  isplitl [HO]; · iexact HO
  isplitl [HW]; · iexact HW
  isplitl [Hx]; · iexact Hx
  isplitl [Hb]; · iexact Hb
  isplitl [HC']; · iexact HC'
  isplitl [HA']; · iexact HA'
  isplitl [HG]; · iexact HG
  iexact HT

/-- To the chunks. -/
theorem phase_chunks {G O T : sProp 𝕄} (h : iprop(Pers m ρ K ∗ O ∗ T ∗ ChSt m ρ c 0 ∗ Rest2 m ρ c) ⊢ G) :
    iprop(Pers m ρ K ∗ O ∗ T ∗ xPts m ρ c ∗ Rest1 m ρ c) ⊢ G := by
  refine BIBase.Entails.trans ?_ h
  unfold Rest1 Rest2
  iintro ⟨#HP, HO, HW, Hx, Hb, HC, HR⟩
  isplitr; · iexact HP
  isplitl [HO]; · iexact HO
  isplitl [HW]; · iexact HW
  isplitl [HC]; · iexact HC
  isplitl [Hb]; · iexact Hb
  isplitl [Hx]; · iexact Hx
  iexact HR

/-- To the maxima. -/
theorem phase_maxima {G O : sProp 𝕄} (h : iprop(Pers m ρ K ∗ O ∗ AmPre c ∗ OwnG c ∗ Rest3 m ρ c) ⊢ G) :
    iprop(Pers m ρ K ∗ O ∗ (Wt m c 8 ∗ Held m c 7 ∗ Held m c 6) ∗ ChSt m ρ c 32 ∗ Rest2 m ρ c) ⊢ G := by
  refine BIBase.Entails.trans ?_ h
  unfold Rest2 Rest3 ChSt
  iintro ⟨#HP, HO, ⟨-, HW⟩, ⟨-, HD⟩, Hb, Hx, HA, HG, HT⟩
  isplitr; · iexact HP
  isplitl [HO]; · iexact HO
  isplitl [HA]; · iexact HA
  isplitl [HG]; · iexact HG
  isplitl [Hb]; · iexact Hb
  isplitl [Hx]; · iexact Hx
  isplitl [HW]; · iexact HW
  isplitl [HD]; · iexact HD
  iexact HT

/-- To the landings. -/
theorem phase_landings {G O : sProp 𝕄} (h : iprop(Pers m ρ K ∗ O ∗ RvSt m ρ c 0 ∗ Rest4 m ρ c) ⊢ G) :
    iprop(Pers m ρ K ∗ O ∗ AmSt m ρ c 31 ∗ gPts c c.val (GB m ρ) ∗ Rest3 m ρ c) ⊢ G := by
  refine BIBase.Entails.trans ?_ h
  unfold Rest3 Rest4 Tail
  iintro ⟨#HP, HO, HA, HG, Hb, Hx, HW, HD, HV, HT⟩
  isplitr; · iexact HP
  isplitl [HO]; · iexact HO
  isplitl [HV]; · iexact HV
  isplitl [Hb]; · iexact Hb
  isplitl [Hx]; · iexact Hx
  isplitl [HW]; · iexact HW
  isplitl [HD]; · iexact HD
  isplitl [HA]; · iexact HA
  isplitl [HG]; · iexact HG
  iexact HT

theorem done_split (c : Dev nD) :
    bigSep (Finset.range 32) (Done m ρ c) ⊢ iprop(bigSep (Finset.range 32) (Sent m ρ c) ∗ rPts c c.val (RB m ρ c)) := by
  have e : ∀ k, Done m ρ c k ⊢ iprop(Sent m ρ c k ∗ if k = c.val then rPts c c.val (RB m ρ c) else iprop(emp)) := fun k => by
    unfold Done Sent
    by_cases h : k = c.val
    · simp only [if_pos h]; exact BI.Entails.refl _
    · simp only [if_neg h]; iintro H; isplitl; · iexact H
      iempintro
  refine BIBase.Entails.trans (mono_range e) ?_
  rw [bigSep_sep']
  refine sep_mono_right ?_
  refine BIBase.Entails.trans (bigSep_elim (Finset.mem_range.mpr (dev_lt c))) ?_
  simp only [if_true]
  exact BI.Entails.refl _

/-- To the results: every landing slot is filled. -/
theorem phase_results {G O : sProp 𝕄} (h : iprop(Pers m ρ K ∗ O ∗ OutSt m ρ c 0 ∗ Rest5 m ρ c) ⊢ G) :
    iprop(Pers m ρ K ∗ O ∗ RvSt m ρ c 31 ∗ Rest4 m ρ c) ⊢ G := by
  refine BIBase.Entails.trans ?_ h
  unfold Rest4 Rest5 RvSt OutSt RvEnd InR InG Out0
  simp only [bigSep_sep']
  rw [← r_all, ← g_all, all_slots c (fun s => rPts (F := F) c s (RB m ρ c)), all_slots c (fun s => gPts (F := F) c s (GB m ρ))]
  iintro ⟨#HP, HO, ⟨-, ⟨HR, HzR⟩, HG, HzG⟩, Hb, Hx, HW, HD, HA, Hg, HS, HSa, Hsp, %f, Ho⟩
  ihave HD' := (done_split m ρ c) $$ HD
  icases HD' with ⟨HD, Hr⟩
  isplitr; · iexact HP
  isplitl [HO]; · iexact HO
  isplitl [HR HG Hr Hg Ho]
  · isplitl [HR Hr]
    · isplitl [Hr] <;> iassumption
    isplitl [HG Hg]
    · isplitl [Hg] <;> iassumption
    iexists f
    isplitr
    · ipureintro; intro i hi; exact absurd hi (Nat.not_lt_zero _)
    iexact Ho
  isplitl [Hb]; · iexact Hb
  isplitl [Hx]; · iexact Hx
  isplitl [HW]; · iexact HW
  isplitl [HD]; · iexact HD
  isplitl [HA]; · iexact HA
  isplitl [HzR HzG]
  · isplitl [HzR] <;> iassumption
  isplitl [HS]; · iexact HS
  isplitl [HSa]; · iexact HSa
  iexact Hsp

/-- To the waits for the chunks. -/
theorem phase_sent {G O : sProp 𝕄} (h : iprop(Pers m ρ K ∗ O ∗ SdSt m ρ c 0 ∗ Rest6 m ρ c) ⊢ G) :
    iprop(Pers m ρ K ∗ O ∗ OutSt m ρ c 32 ∗ Rest5 m ρ c) ⊢ G := by
  refine BIBase.Entails.trans ?_ h
  unfold Rest5 Rest6 OutSt OutEnd SdSt SdPos
  rw [Nat.Ico_zero_eq_range, bigSep_sep', Finset.range_zero, bigSep_empty]
  iintro ⟨#HP, HO, ⟨HR, HG, %f, %hf, Ho⟩, Hb, Hx, HW, HD, HA, Hz, HS, HSa, Hsp⟩
  have e : f = outB m ρ c := funext fun i => hf i (i 0).isLt
  subst e
  isplitr; · iexact HP
  isplitl [HO]; · iexact HO
  isplitl [HS HD]
  · isplitl
    · isplitl [HS]; · iexact HS
      iexact HD
    · iempintro
  isplitl [Hb]; · iexact Hb
  isplitl [Hx]; · iexact Hx
  isplitl [HW]; · iexact HW
  isplitl [HA]; · iexact HA
  isplitl [Hz]; · iexact Hz
  isplitl [HSa]; · iexact HSa
  isplitl [Hsp]; · iexact Hsp
  isplitl [HR]; · iexact HR
  isplitl [HG]; · iexact HG
  iexact Ho

/-- To the waits for the maxima. -/
theorem phase_sent_maxima {G O : sProp 𝕄} (h : iprop(Pers m ρ K ∗ O ∗ SaSt m ρ c 0 ∗ Rest7 m ρ c) ⊢ G) :
    iprop(Pers m ρ K ∗ O ∗ SdSt m ρ c 32 ∗ Rest6 m ρ c) ⊢ G := by
  refine BIBase.Entails.trans ?_ h
  unfold Rest6 Rest7 SdSt SaSt AmSt SaPos
  rw [Nat.Ico_zero_eq_range, bigSep_sep' (Finset.range 31), Finset.range_zero, bigSep_empty, bigSep_sep' (Finset.range 32), y_all]
  iintro ⟨#HP, HO, ⟨-, Hy, Hz⟩, Hb, Hx, HW, ⟨Ha, -, -, Hc⟩, HV, HSa, Hsp, HE⟩
  isplitr; · iexact HP
  isplitl [HO]; · iexact HO
  isplitl [HSa Hc]
  · isplitl
    · isplitl [HSa] <;> iassumption
    · iempintro
  isplitl [Hb]; · iexact Hb
  isplitl [Hx]; · iexact Hx
  isplitl [HW]; · iexact HW
  isplitl [Ha]; · iexact Ha
  isplitl [HV]; · iexact HV
  isplitl [Hsp]; · iexact Hsp
  isplitl [HE]; · iexact HE
  isplitl [Hy]; · iexact Hy
  iexact Hz

end Cert.Exchange
-- ==== Proof.End.lean ====
/-
# The end of a device's run

After the last wait every cell of the exchange is closed, its counter at zero, and every scratch buffer is whole again.
-/
module

public import proofs.«01_k».proof.Proof.Phases

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg)
variable (K : GSem nD τ sig → ℕ) {c : Dev nD} {α : Type}

/-- The five scratch buffers, each whole at some contents. -/
def Scr (c : Dev nD) : sProp 𝕄 :=
  iprop((∃ f : Buf (Elt F) (wL c), wL c ↦{fullShare} f) ∗ (∃ f : Buf (Elt F) (yL c), yL c ↦{fullShare} f)
    ∗ (∃ f : Buf (Elt F) (rL c), rL c ↦{fullShare} f) ∗ (∃ f : Buf (Elt F) (aL c), aL c ↦{fullShare} f)
    ∗ (∃ f : Buf (Elt F) (gL c), gL c ↦{fullShare} f))
/-- The DMA semaphores of the exchange, all at zero. -/
def Zeros (c : Dev nD) : sProp 𝕄 := bigSep (Finset.range 130) fun i => semVal ((c : Thread nD τ), dq (2 + i)) 0

omit [FloatOps F] in
/-- The DMA semaphores of the exchange, kind by kind. -/
theorem by_kind (Φ : SemLoc sig → sProp 𝕄) : bigSep (Finset.range 130) (fun i => Φ (dq (2 + i))) =
    iprop(((((bigSep (Finset.range 2) fun s => Φ (dq (2 + s))) ∗ bigSep (Finset.range 32) fun k => Φ (dq (4 + k)))
      ∗ bigSep (Finset.range 32) fun s => Φ (dq (36 + s))) ∗ bigSep (Finset.range 32) fun d => Φ (dq (68 + d)))
      ∗ bigSep (Finset.range 32) fun s => Φ (dq (100 + s))) := by
  rw [show (130 : ℕ) = (((2 + 32) + 32) + 32) + 32 from rfl, range_append, range_append, range_append, range_append]
  have e (a b : ℕ) (h : 2 + a = b) : bigSep (Finset.range 32) (fun i => Φ (dq (2 + (a + i))))
      = bigSep (Finset.range 32) fun i => Φ (dq (b + i)) := by
    subst h; simp only [Nat.add_assoc]
  rw [e 2 4 rfl, e (2 + 32) 36 rfl, e (2 + 32 + 32) 68 rfl, e (2 + 32 + 32 + 32) 100 rfl]

omit [FloatOps F] in
/-- A separating product over the two numbers below two. -/
theorem range_two (Φ : ℕ → sProp 𝕄) : bigSep (Finset.range 2) Φ = iprop(Φ 1 ∗ Φ 0) := by
  rw [range_snoc, range_snoc, Finset.range_zero, bigSep_empty]
  exact congrArg (fun X => iprop(Φ 1 ∗ X)) (BI.equiv_iff.mp sep_emp)

omit [FloatOps F] in
/-- The kinds, with a device's own slots apart from its neighbours'. -/
theorem by_kind_own (c : Dev nD) (Φ : SemLoc sig → sProp 𝕄) : bigSep (Finset.range 130) (fun i => Φ (dq (2 + i))) =
    iprop((((((Φ (dq (2 + 1)) ∗ Φ (dq (2 + 0))) ∗ bigSep (Finset.range 32) fun k => Φ (dq (4 + k)))
      ∗ Φ (dq (36 + c.val)) ∗ bigSep (Finset.range 31) fun d => Φ (dq (36 + (nb d c).val)))
      ∗ Φ (dq (68 + 31)) ∗ bigSep (Finset.range 31) fun d => Φ (dq (68 + d)))
      ∗ Φ (dq (100 + c.val)) ∗ bigSep (Finset.range 31) fun d => Φ (dq (100 + (nb d c).val)))) := by
  rw [by_kind, range_two, all_slots c fun s => Φ (dq (36 + s)), all_slots c fun s => Φ (dq (100 + s)),
    range_snoc 31 fun d => Φ (dq (68 + d))]

omit [FloatOps F] in
/-- The zeros, kind by kind. -/
theorem zeros_eq (c : Dev nD) : (Zeros (F := F) c) =
    iprop((((((semVal (wC c 1) 0 ∗ semVal (wC c 0) 0) ∗ bigSep (Finset.range 32) fun k => semVal (sdC c k) 0)
      ∗ semVal (rdC c c.val) 0 ∗ bigSep (Finset.range 31) fun d => semVal (rdC c (nb d c).val) 0)
      ∗ semVal (saC c 31) 0 ∗ bigSep (Finset.range 31) fun d => semVal (saC c d) 0)
      ∗ semVal (raC c c.val) 0 ∗ bigSep (Finset.range 31) fun d => semVal (raC c (nb d c).val) 0)) := by
  unfold Zeros
  exact by_kind_own c fun sm => semVal ((c : Thread nD τ), sm) 0

omit [FloatOps F] in
/-- The two slots of the weight buffer. -/
theorem w_whole (c : Dev nD) (f g : Buf (Elt F) (wL c)) :
    iprop(wPts c 1 f ∗ wPts c 0 g) ⊢ iprop(∃ f : Buf (Elt F) (wL c), wL c ↦{fullShare} f) := by
  unfold wPts
  iintro H
  iexists _
  ihave H := (pointsTo_join (slot_disjoint 2 4096 1024 (by decide : (1 : ℕ) ≠ 0))) $$ H
  have e : slot 2 4096 1024 1 ∪ slot 2 4096 1024 0 = Finset.univ := by
    ext i
    have h : (i 0).val < 2 := (i 0).isLt
    simp only [Finset.mem_union, mem_slot, Finset.mem_univ, iff_true]
    omega
  rw [e]
  iexact H

/-- Every cell closed, every buffer whole. -/
theorem phase_end {Q : α → sProp 𝕄} {p : PR F α}
    (h : iprop((∃ W, owes (c : Thread nD τ) 0 W) ∗ (Scr c ∗ Zeros c ∗ semVal (barC c) 0) ∗ xPts m ρ c
      ∗ (((c : Thread nD τ).loc cc0_stg1_0) ↦{fullShare} outB m ρ c)) ⊢ WP c p Q) :
    iprop(Pers m ρ K ∗ Ow c 31 32 31 ∗ SaSt m ρ c 31 ∗ Rest7 m ρ c) ⊢ WP c p Q := by
  have hc := dev_lt c
  unfold Rest7 SaSt Ow Held Spare RvEnd OutEnd
  rw [Od_done]
  simp only [bigSep_sep']
  iintro ⟨#HP, HO, ⟨-, Ha', Hza⟩, Hb, Hx, ⟨⟨Hw1, Hp1, -⟩, Hw0, Hp0, -⟩, Ha, ⟨Hzr, Hzg⟩, ⟨Hpr, Hps, Hpg⟩, ⟨Hr, Hg, Ho⟩, Hy, Hzs⟩
  iapply (close_cell m ρ K (n := 2 + 1) (r := 4) (by decide) (by decide) (duty_done c (.inl le_rfl))) $$ [Hp1]
  · isplitr; · iexact HP
    iexact Hp1
  iintro Hz1
  iapply (close_cell m ρ K (n := 2 + 0) (r := 4) (by decide) (by decide) (duty_done c (.inl le_rfl))) $$ [Hp0]
  · isplitr; · iexact HP
    iexact Hp0
  iintro Hz0
  iapply (close_cell m ρ K (n := 36 + c.val) (r := 0) (by omega) (by omega)
    (fun r _ => by rw [role_rd hc]; exact if_neg fun hh => hh.2 rfl)) $$ [Hpr]
  · isplitr; · iexact HP
    iexact Hpr
  iintro Hz2
  iapply (close_cell m ρ K (n := 68 + 31) (r := 0) (by omega) (by omega)
    (fun r _ => by rw [role_sa (by decide)]; exact if_neg fun hh => absurd hh.2 (by decide))) $$ [Hps]
  · isplitr; · iexact HP
    iexact Hps
  iintro Hz3
  iapply (close_cell m ρ K (n := 100 + c.val) (r := 0) (by omega) (by omega)
    (fun r _ => by rw [role_ra hc]; exact if_neg fun hh => hh.2 rfl)) $$ [Hpg]
  · isplitr; · iexact HP
    iexact Hpg
  iintro Hz4
  iapply h
  isplitl [HO]; · iexact HO
  isplitr [Hx Ho]
  · isplitl [Ha' Ha Hw1 Hw0 Hy Hr Hg]
    · unfold Scr
      isplitl [Hw1 Hw0]
      · iapply (w_whole c (WB m c 7) (WB m c 6))
        isplitl [Hw1] <;> iassumption
      isplitl [Hy]; · iexists _; iexact Hy
      isplitl [Hr]; · iexists _; iexact Hr
      isplitl [Ha Ha']
      · iexists (AM m ρ c)
        iapply (Transfers.pointsTo_toks_range (ℓ := aL c) (S := Finset.univ) (f := AM m ρ c) fullShare 31).2
        unfold aPts
        isplitl [Ha] <;> iassumption
      iexists _; iexact Hg
    isplitr [Hb]
    · rw [zeros_eq]
      isplitr [Hz4 Hzg]
      · isplitr [Hz3 Hza]
        · isplitr [Hz2 Hzr]
          · isplitr [Hzs]
            · isplitl [Hz1] <;> iassumption
            iexact Hzs
          isplitl [Hz2] <;> iassumption
        isplitl [Hz3] <;> iassumption
      isplitl [Hz4] <;> iassumption
    iexact Hb
  isplitl [Hx] <;> iassumption

end Cert.Exchange
-- ==== Proof.Credits.lean ====
/-
# What the devices owe each other at launch

Every device owes each other device a barrier signal, a chunk and a maximum. Summed over all devices, what is owed is what each
device is owed; so the launch gives every device the credits of what its neighbours owe it.
-/
module

public import proofs.«01_k».proof.Proof.Phases

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable {c : Dev nD}

/-- A sum over the other devices, or over the neighbours. -/
theorem sum_nb (c : Dev nD) (f : Dev nD → CellTallies nD τ sig Unit) : ∑ d ∈ Finset.range 31, f (nb d c) = ∑ e ∈ Finset.univ.erase c, f e := by
  rw [others_eq, Finset.sum_image (nb_inj c)]

/-- A sum over all numbers but one. -/
theorem sum_others (c : Dev nD) (f : Dev nD → CellTallies nD τ sig Unit) :
    (∑ j ∈ Finset.range 32, if j = c.val then 0 else f (dv j)) = ∑ e ∈ Finset.univ.erase c, f e := by
  have h : (∑ j ∈ Finset.range 32, if j = c.val then 0 else f (dv j)) = ∑ e : Dev nD, if e.val = c.val then 0 else f (dv e.val) :=
    Finset.sum_range fun j => if j = c.val then 0 else f (dv j)
  rw [h, ← Finset.sum_erase (s := Finset.univ) (f := fun e : Dev nD => if e.val = c.val then 0 else f (dv e.val)) (a := c) (if_pos rfl)]
  refine Finset.sum_congr rfl fun e he => ?_
  rw [if_neg (fun hv => Finset.ne_of_mem_erase he (Fin.ext hv)), dv_dev]

/-- Over all ordered pairs of different devices, either one first. -/
theorem sum_pairs (f : Dev nD → Dev nD → CellTallies nD τ sig Unit) :
    ∑ c : Dev nD, ∑ e ∈ Finset.univ.erase c, f e c = ∑ c : Dev nD, ∑ d ∈ Finset.range 31, f c (nb d c) := by
  simp only [sum_nb _ (f _)]
  exact Finset.sum_comm' fun x y => by
    simp only [Finset.mem_univ, true_and, Finset.mem_erase, and_true]
    exact ne_comm

/-- What device `c` is owed. -/
def Due (c : Dev nD) : CellTallies nD τ sig Unit :=
  (∑ d ∈ Finset.range 31, tallyAt (raC c (nb d c).val) () NA)
  + (∑ d ∈ Finset.range 31, tallyAt (rdC c (nb d c).val) () ND)
  + ∑ d ∈ Finset.range 31, tallyAt (barC c) () 1

theorem owed_due : ∑ c : Dev nD, Od c 0 0 0 = ∑ c : Dev nD, Due c := by
  unfold Od Due
  simp only [← Finset.range_eq_Ico, Finset.sum_add_distrib]
  rw [← sum_pairs fun e s => tallyAt (raC e s.val) () NA, ← sum_pairs fun e s => tallyAt (rdC e s.val) () ND,
    ← sum_pairs fun e _ => tallyAt (barC e) () 1]
  refine congrArg₂ _ (congrArg₂ _ ?_ ?_) ?_
  · exact Finset.sum_congr rfl fun c _ => sum_nb c fun e => tallyAt (raC e c.val) () NA
  · exact Finset.sum_congr rfl fun c _ => sum_others c fun e => tallyAt (rdC e c.val) () ND
  · exact Finset.sum_congr rfl fun c _ => sum_nb c fun e => tallyAt (barC e) () 1

theorem due_own (c : Dev nD) (g : GSem nD τ sig) (h : Due c g ≠ 0) : g.1 = (c : Thread nD τ) := by
  obtain ⟨u, hu⟩ : ∃ u, 0 < Due c g u := by
    by_contra hn
    simp only [not_exists, not_lt, Nat.le_zero] at hn
    exact h (Finsupp.ext hn)
  unfold Due at hu
  have one {T : ℕ → SemLoc sig} {n : ℕ} (hs : 0 < (∑ d ∈ Finset.range 31, tallyAt ((c : Thread nD τ), T d) () n : CellTallies nD τ sig Unit) g u) :
      g.1 = (c : Thread nD τ) := by
    obtain ⟨d, -, hd⟩ := Pipeline.sum_pos_exists hs
    rw [(Pipeline.tallyAt_pos hd).1]
  rcases Pipeline.add_pos_cases hu with h | h
  · rcases Pipeline.add_pos_cases h with h | h
    · exact one h
    · exact one h
  · exact one (T := fun _ => .reg barS) h

theorem tally_many (g : GSem nD τ sig) (n : ℕ) : (∑ d ∈ Finset.range n, tallyAt g () 1 : CellTallies nD τ sig Unit) = tallyAt g () n := by
  induction n with
  | zero =>
    rw [Finset.range_zero, Finset.sum_empty]
    funext g'
    refine Finsupp.ext fun u => ?_
    rw [tallyAt_apply, ite_self]; rfl
  | succ n ih =>
    rw [Finset.sum_range_succ, ih]
    funext g'
    refine Finsupp.ext fun u => ?_
    rw [Pi.add_apply, Finsupp.add_apply, tallyAt_apply, tallyAt_apply, tallyAt_apply]
    split <;> rfl

/-- What a device is owed at launch: the barrier signals, the chunks and the maxima of the others. -/
def Creds (c : Dev nD) : sProp 𝕄 := iprop(cred (tallyAt (barC c) () 31)
  ∗ (bigSep (Finset.range 31) fun d => cred (tallyAt (rdC c (nb d c).val) () ND)) ∗ bigSep (Finset.range 31) fun d => cred (tallyAt (raC c (nb d c).val) () NA))

omit [FloatOps F] in
theorem creds (c : Dev nD) : (Pipeline.launchCred (fun c => Od c 0 0 0) c : sProp 𝕄) ⊢ Creds c := by
  rw [Pipeline.launchCred_of_sum _ Due owed_due due_own]
  unfold Due Creds
  rw [tally_many, ← Pipeline.cred_finsetSum, ← Pipeline.cred_finsetSum]
  iintro H
  ihave H := (cred_add _ _).1 $$ H
  icases H with ⟨H, Hb⟩
  ihave H := (cred_add _ _).1 $$ H
  icases H with ⟨Ha, Hr⟩
  isplitl [Hb]; · iexact Hb
  isplitl [Hr] <;> iassumption

end Cert.Exchange

end
-- ==== Proof.Deal.lean ====
/-
# Dealing the launch's resources

The launch makes, for every cell of the exchange, its position and the tokens of its duties, and gives every device its
buffers and the credits of what the others owe it. This file sorts what one device gets into the parts its body starts from.
-/
module

public import proofs.«01_k».proof.Proof.End
public import proofs.«01_k».proof.Proof.Credits

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg)
variable (K : GSem nD τ sig → ℕ) {c : Dev nD}

/-! ## Counting cells -/

omit [FloatOps F] in
/-- Over the numbers below `n`, as elements of a finite type or as numbers. -/
theorem over_fin (n : ℕ) (Φ : ℕ → sProp 𝕄) : bigSep (Finset.univ : Finset (Fin n)) (fun i => Φ i.val) = bigSep (Finset.range n) Φ := by
  have e : Finset.range n = (Finset.univ : Finset (Fin n)).image Fin.val := by
    ext i
    simp only [Finset.mem_range, Finset.mem_image, Finset.mem_univ, true_and]
    exact ⟨fun h => ⟨⟨i, h⟩, rfl⟩, fun ⟨a, h⟩ => h ▸ a.isLt⟩
  rw [e, bigSep_image_of_injOn (fun a _ b _ h => Fin.ext h)]

theorem csem_succ (i : ℕ) : csem (1 + i) = dq (2 + i) := by rw [Nat.add_comm 1, Nat.add_comm 2]; rfl

omit [FloatOps F] in
/-- Over a device's cells: its barrier, then its DMA semaphores. -/
theorem over_cells (c : Dev nD) (Φ : GSem nD τ sig → sProp 𝕄) :
    bigSep (Finset.univ : Finset (Fin 131)) (fun i => Φ (kcell (c, i)))
      = iprop(Φ (barC c) ∗ bigSep (Finset.range 130) fun i => Φ ((c : Thread nD τ), dq (2 + i))) := by
  have h := over_fin (F := F) 131 fun i => Φ ((c : Thread nD τ), csem i)
  refine h.trans ?_
  rw [show (131 : ℕ) = 1 + 130 from rfl, range_append, range_snoc, Finset.range_zero, bigSep_empty]
  simp only [csem_succ]
  exact congrArg (fun X => iprop(X ∗ bigSep (Finset.range 130) fun i => Φ ((c : Thread nD τ), dq (2 + i)))) (BI.equiv_iff.mp sep_emp)

/-! ## Positions -/

/-- A device's places at the start of its cells. -/
def Pos (c : Dev nD) : sProp 𝕄 := bigSep (Finset.univ : Finset (Fin 131)) fun i => atPos ER (kcell (c, i)) 0 ∅ 0

omit [FloatOps F] in
theorem pos_eq (c : Dev nD) : Pos (F := F) c =
    iprop(atPos ER (barC c) 0 ∅ 0 ∗ ((((((atPos ER (wC c 1) 0 ∅ 0 ∗ atPos ER (wC c 0) 0 ∅ 0) ∗ bigSep (Finset.range 32) fun k => atPos ER (sdC c k) 0 ∅ 0)
      ∗ atPos ER (rdC c c.val) 0 ∅ 0 ∗ bigSep (Finset.range 31) fun d => atPos ER (rdC c (nb d c).val) 0 ∅ 0)
      ∗ atPos ER (saC c 31) 0 ∅ 0 ∗ bigSep (Finset.range 31) fun d => atPos ER (saC c d) 0 ∅ 0)
      ∗ atPos ER (raC c c.val) 0 ∅ 0 ∗ bigSep (Finset.range 31) fun d => atPos ER (raC c (nb d c).val) 0 ∅ 0))) := by
  unfold Pos
  rw [over_cells c fun g => atPos ER g 0 ∅ 0, by_kind_own c fun sm => atPos ER ((c : Thread nD τ), sm) 0 ∅ 0]

/-! ## Tokens -/

/-- The tokens of device `c`'s duties on a cell, for its first four rounds. -/
def Four (c : Dev nD) (g : GSem nD τ sig) : sProp 𝕄 := bigSep (Finset.univ : Finset (Fin 4)) fun r => dutyTok ER g r.val c
/-- The tokens of all of device `c`'s duties, on whatever device's cells. -/
def Mine (c : Dev nD) : sProp 𝕄 := bigSep Finset.univ fun e : Dev nD => bigSep (Finset.univ : Finset (Fin 131)) fun i => Four c (kcell (e, i))

omit [FloatOps F] in
theorem four_first (c : Dev nD) (g : GSem nD τ sig) : Four (F := F) c g ⊢ dutyTok ER g 0 c :=
  bigSep_elim (Φ := fun r : Fin 4 => (dutyTok ER g r.val c : sProp 𝕄)) (Finset.mem_univ (0 : Fin 4))
omit [FloatOps F] in
theorem four_all (c : Dev nD) (g : GSem nD τ sig) : Four (F := F) c g ⊢ iprop(dutyTok ER g 3 c ∗ dutyTok ER g 2 c ∗ dutyTok ER g 1 c ∗ dutyTok ER g 0 c) := by
  unfold Four
  rw [over_fin 4 fun r => (dutyTok ER g r c : sProp 𝕄)]
  simp only [range_snoc, Finset.range_zero, bigSep_empty]
  iintro ⟨H3, H2, H1, H0, -⟩
  isplitl [H3]; · iexact H3
  isplitl [H2]; · iexact H2
  isplitl [H1] <;> iassumption

omit [FloatOps F] in
/-- On its own DMA semaphores a device pays the weight copies, the sending of chunks and the sending of maxima. -/
theorem toks_own (c : Dev nD) : bigSep (Finset.range 130) (fun i => Four (F := F) c ((c : Thread nD τ), dq (2 + i))) ⊢
    iprop((bigSep (Finset.range 8) fun b => dutyTok ER (wC c (b % 2)) (b / 2) c)
      ∗ (bigSep (Finset.range 31) fun d => dutyTok ER (sdC c (nb d c).val) 0 c) ∗ bigSep (Finset.range 31) fun d => dutyTok ER (saC c d) 0 c) := by
  rw [by_kind_own c fun sm => Four (F := F) c ((c : Thread nD τ), sm), all_slots c fun k => Four (F := F) c (sdC c k)]
  iintro ⟨⟨⟨⟨⟨H1, H0⟩, -, Hs⟩, -⟩, -, Ha⟩, -⟩
  isplitl [H1 H0]
  · ihave H1 := (four_all c (wC c 1)) $$ H1
    ihave H0 := (four_all c (wC c 0)) $$ H0
    icases H1 with ⟨H13, H12, H11, H10⟩
    icases H0 with ⟨H03, H02, H01, H00⟩
    simp only [range_snoc, Finset.range_zero, bigSep_empty]
    isplitl [H13]; · iexact H13
    isplitl [H03]; · iexact H03
    isplitl [H12]; · iexact H12
    isplitl [H02]; · iexact H02
    isplitl [H11]; · iexact H11
    isplitl [H01]; · iexact H01
    isplitl [H10]; · iexact H10
    isplitl [H00]; · iexact H00
    iempintro
  isplitl [Hs]
  · iapply (mono_range (s := Finset.range 31) fun d => four_first (F := F) c (sdC c (nb d c).val)); iexact Hs
  · iapply (mono_range (s := Finset.range 31) fun d => four_first (F := F) c (saC c d)); iexact Ha

omit [FloatOps F] in
/-- On another device's cells it pays the barrier signal, the landing of its chunk and the landing of its maximum. -/
theorem toks_other (c e : Dev nD) : bigSep (Finset.univ : Finset (Fin 131)) (fun i => Four (F := F) c (kcell (e, i))) ⊢
    iprop(dutyTok ER (barC e) 0 c ∗ dutyTok ER (rdC e c.val) 0 c ∗ dutyTok ER (raC e c.val) 0 c) := by
  rw [over_cells e (Four (F := F) c), by_kind fun sm => Four (F := F) c ((e : Thread nD τ), sm),
    all_slots c fun s => Four (F := F) c (rdC e s), all_slots c fun s => Four (F := F) c (raC e s)]
  iintro ⟨Hb, ⟨⟨-, Hr, -⟩, -⟩, Ha, -⟩
  isplitl [Hb]; · iapply (four_first c (barC e)); iexact Hb
  isplitl [Hr]; · iapply (four_first c (rdC e c.val)); iexact Hr
  iapply (four_first c (raC e c.val)); iexact Ha

omit [FloatOps F] in
/-- Over all devices: one of them and its neighbours. -/
theorem all_dev (c : Dev nD) (Φ : Dev nD → sProp 𝕄) :
    bigSep Finset.univ Φ = iprop(Φ c ∗ bigSep (Finset.range 31) fun d => Φ (nb d c)) := by
  rw [← all_nb c Φ]
  exact bigSep_univ_split c

omit [FloatOps F] in
theorem toks_all (c : Dev nD) : Mine (F := F) c ⊢
    iprop(((bigSep (Finset.range 8) fun b => dutyTok ER (wC c (b % 2)) (b / 2) c)
      ∗ (bigSep (Finset.range 31) fun d => dutyTok ER (sdC c (nb d c).val) 0 c) ∗ bigSep (Finset.range 31) fun d => dutyTok ER (saC c d) 0 c)
      ∗ (bigSep (Finset.range 31) fun d => dutyTok ER (barC (nb d c)) 0 c) ∗ (bigSep (Finset.range 31) fun d => dutyTok ER (rdC (nb d c) c.val) 0 c)
      ∗ bigSep (Finset.range 31) fun d => dutyTok ER (raC (nb d c) c.val) 0 c) := by
  unfold Mine
  rw [all_dev c, over_cells c (Four (F := F) c)]
  iintro ⟨⟨-, Ho⟩, Hn⟩
  isplitl [Ho]
  · iapply (toks_own c); iexact Ho
  · ihave Hn := (mono_range (s := Finset.range 31) fun d => toks_other (F := F) c (nb d c)) $$ Hn
    simp only [bigSep_sep']
    iexact Hn

/-! ## Buffers -/

omit [FloatOps F] in
theorem cut_w (c : Dev nD) : iprop(∃ f : Buf (Elt F) (wL c), wL c ↦{fullShare} f) ⊢ iprop((∃ f, wPts c 1 f) ∗ ∃ f, wPts c 0 f) := by
  iintro ⟨%f, H⟩
  ihave H := (Entails.of_eq ((by_slots (F := F) (g := f) (A := 2) (B := 4096) (C := 1024) (slot_cover 2 4096 1024) fun _ _ h => slot_disjoint 2 4096 1024 h).trans (range_two _))) $$ H
  icases H with ⟨H1, H0⟩
  isplitl [H1]
  · iexists f; unfold wPts; iexact H1
  · iexists f; unfold wPts; iexact H0
omit [FloatOps F] in
theorem cut_y (c : Dev nD) : iprop(∃ f : Buf (Elt F) (yL c), yL c ↦{fullShare} f) ⊢ bigSep (Finset.range 32) fun k => iprop(∃ f, yPts c k f) := by
  iintro ⟨%f, H⟩
  ihave H := (Entails.of_eq (by_slots (F := F) (g := f) (A := 32) (B := 128) (C := 256) (slot_cover 32 128 256) fun _ _ h => slot_disjoint 32 128 256 h)) $$ H
  iapply (mono_range (s := Finset.range 32) (Ψ := fun k => iprop(∃ f, yPts (F := F) c k f)) fun k => by unfold yPts; iintro H; iexists f; iexact H); iexact H
omit [FloatOps F] in
theorem cut_r (c : Dev nD) : iprop(∃ f : Buf (Elt F) (rL c), rL c ↦{fullShare} f) ⊢ bigSep (Finset.range 32) fun k => iprop(∃ f, rPts c k f) := by
  iintro ⟨%f, H⟩
  ihave H := (Entails.of_eq (by_slots (F := F) (g := f) (A := 32) (B := 128) (C := 256) (slot_cover 32 128 256) fun _ _ h => slot_disjoint 32 128 256 h)) $$ H
  iapply (mono_range (s := Finset.range 32) (Ψ := fun k => iprop(∃ f, rPts (F := F) c k f)) fun k => by unfold rPts; iintro H; iexists f; iexact H); iexact H
omit [FloatOps F] in
theorem cut_g (c : Dev nD) : iprop(∃ f : Buf (Elt F) (gL c), gL c ↦{fullShare} f) ⊢ bigSep (Finset.range 32) fun k => iprop(∃ f, gPts c k f) := by
  iintro ⟨%f, H⟩
  ihave H := (Entails.of_eq (by_slots (F := F) (g := f) (A := 32) (B := 8) (C := 128) (slot_cover 32 8 128) fun _ _ h => slot_disjoint 32 8 128 h)) $$ H
  iapply (mono_range (s := Finset.range 32) (Ψ := fun k => iprop(∃ f, gPts (F := F) c k f)) fun k => by unfold gPts; iintro H; iexists f; iexact H); iexact H

omit [FloatOps F] in
theorem chTok_eq (c : Dev nD) : ChTok (F := F) c = iprop(((∃ f, yPts c c.val f) ∗ ∃ f, rPts c c.val f)
    ∗ bigSep (Finset.range 31) fun d => iprop((∃ f, yPts c (nb d c).val f)
      ∗ dutyTok ER (sdC c (nb d c).val) 0 c ∗ dutyTok ER (rdC (nb d c) c.val) 0 c)) := by
  unfold ChTok
  rw [all_slots c, if_pos rfl]
  refine congrArg (fun X => iprop(((∃ f, yPts c c.val f) ∗ ∃ f, rPts c c.val f) ∗ X)) (bigSep_congr fun d hd => ?_)
  have h : (nb d c).val ≠ c.val := fun e => nb_ne (Finset.mem_range.mp hd) c (Fin.ext e)
  rw [if_neg h, dv_dev]

/-! ## What the body starts from -/

/-- The shares of the weights the copies read. -/
def Hw (c : Dev nD) : sProp 𝕄 := bigSep (Finset.range 8) fun b => hPts m c (shareTokN fullShare.right b)

set_option maxRecDepth 20000 in
theorem ready (c : Dev nD) : iprop(Pers m ρ K ∗ Pos c ∗ Mine c ∗ Creds c ∗ Hw m c ∗ Scr c ∗ xPts m ρ c ∗ Out0 c) ⊢
    iprop(BarSt c 0 ∗ (cred (tallyAt (barC c) () 31) ∗ atPos ER (barC c) 0 ∅ 0) ∗ Rest0 m ρ c) := by
  unfold Creds Hw Scr
  iintro ⟨#HP, Hpos, Hmine, ⟨Hcb, Hcr, Hca⟩, Hw, ⟨Hbw, Hby, Hbr, ⟨%fa, Hba⟩, Hbg⟩, Hx, Hout⟩
  ihave Hpos := (Entails.of_eq (pos_eq c)) $$ Hpos
  ihave Hmine := (toks_all c) $$ Hmine
  icases Hpos with ⟨Hpb, ⟨⟨⟨⟨Hpw1, Hpw0⟩, Hpsd⟩, Hprd, Hprds⟩, Hpsa, Hpsas⟩, Hpra, Hpras⟩
  icases Hmine with ⟨⟨Htw, Htsd, Htsa⟩, Htb, Htrd, Htra⟩
  ihave Hbw := (cut_w c) $$ Hbw
  icases Hbw with ⟨Hbw1, Hbw0⟩
  ihave Hby := ((cut_y c).trans (Entails.of_eq (all_slots c _))) $$ Hby
  icases Hby with ⟨Hby, Hbys⟩
  ihave Hbr := ((cut_r c).trans (Entails.of_eq (all_slots c _))) $$ Hbr
  icases Hbr with ⟨Hbr, Hbrs⟩
  ihave Hbg := ((cut_g c).trans (Entails.of_eq (all_slots c _))) $$ Hbg
  icases Hbg with ⟨Hbg, Hbgs⟩
  unfold Rest0 Tail BarSt Wt RvSt AwR AwG AmTok SdPos SaPos Spare OwnG
  rw [chTok_eq]
  simp only [← Finset.range_eq_Ico, bigSep_sep', Finset.range_zero, bigSep_empty]
  isplitl [Htb Hbrs Hbgs]
  · isplitl [Htb]; · iexact Htb
    isplitl [Hbrs] <;> iassumption
  isplitl [Hcb Hpb]
  · isplitl [Hcb] <;> iassumption
  isplitl [Htw Hw Hbw1 Hbw0 Hpw1 Hpw0]
  · isplitl [Htw Hw]
    · isplitl [Htw] <;> iassumption
    unfold Free
    isplitl [Hbw0 Hpw0]
    · isplitl [Hbw0]; · iexact Hbw0
      isplitl [Hpw0]; · iexact Hpw0
      iapply (reached_of m ρ K (mem_dq c (n := 2 + 0) (by decide) (by decide))); iexact HP
    · isplitl [Hbw1]; · iexact Hbw1
      isplitl [Hpw1]; · iexact Hpw1
      iapply (reached_of m ρ K (mem_dq c (n := 2 + 1) (by decide) (by decide))); iexact HP
  isplitl [Hx]; · iexact Hx
  isplitl [Hby Hbr Hbys Htsd Htrd]
  · isplitl [Hby Hbr]
    · isplitl [Hby] <;> iassumption
    isplitl [Hbys]; · iexact Hbys
    isplitl [Htsd] <;> iassumption
  isplitl [Hba Htsa Htra]
  · isplitl [Hba]
    · iexists fa; unfold aPts; iexact Hba
    isplitl [Htsa] <;> iassumption
  isplitl [Hbg]; · iexact Hbg
  isplitl [Hprds Hpras Hcr Hca]
  · isplitl [Hprds Hpras Hcr Hca]
    · isplitl [Hprds Hcr]
      · isplitl [Hprds] <;> iassumption
      · isplitl [Hpras] <;> iassumption
    · isplitl [] <;> iempintro
  isplitl [Hpsd]; · iexact Hpsd
  isplitl [Hpsas]; · iexact Hpsas
  isplitl [Hprd Hpsa Hpra]
  · isplitl [Hprd]; · iexact Hprd
    isplitl [Hpsa] <;> iassumption
  iexact Hout

end Cert.Exchange

end
-- ==== Proof.Body.lean ====
/-
# The body of the kernel

One pass over the body, operation by operation in program order, each by its own lemma. Between two phases a lemma of the
phases rearranges what the device holds. The side conditions are numbers: which semaphore, which slot, which device.
-/
module

public import proofs.«01_k».proof.Proof.End

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg)
variable (K : GSem nD τ sig → ℕ) {c : Dev nD} {α : Type}

set_option maxRecDepth 20000 in
set_option maxHeartbeats 4000000 in
/-- What the body starts from, and what it ends with: nothing owed, the scratch buffers, every semaphore at zero, the
    activations and the result. -/
theorem walk {Q : Dev nD → PUnit → sProp 𝕄}
    (hQ : ∀ c : Dev nD, iprop((∃ W, owes (c : Thread nD τ) 0 W) ∗ (Scr c ∗ Zeros c ∗ semVal (barC c) 0) ∗ xPts m ρ c
      ∗ (((c : Thread nD τ).loc cc0_stg1_0) ↦{fullShare} outB m ρ c)) ⊢ Q c ⟨⟩) :
    iprop(Pers m ρ K ∗ Ow c 0 0 0 ∗ BarSt c 0 ∗ (cred (tallyAt (barC c) () 31) ∗ atPos ER (barC c) 0 ∅ 0) ∗ Rest0 m ρ c) ⊢
      WP c (cc0_body (F := F) xM (Memref.isWhole_whole _) hM (Memref.isWhole_whole _) oM (Memref.isWhole_whole _) wM (Memref.isWhole_whole _) yM (Memref.isWhole_whole _)
         rM (Memref.isWhole_whole _) aM (Memref.isWhole_whole _) gM (Memref.isWhole_whole _) cc0_scratch5 cc0_scratch6 cc0_scratch7 cc0_scratch8 cc0_scratch9) (Q c) := by
  rw [cc0_body_eq_skeleton]; unfold cc0_body_skel
  rw [k0_part68_eq_skeleton]; unfold k0_part68_skel
  refine step_bind ?_
  refine step_bind ?_
  rw [k0_part1_eq_skeleton]; unfold k0_part1_skel
  dsimp only
  refine step_device ?_
  refine step_signal m ρ K (n := 0) (by decide) (by revert c; decide +kernel) ?_
  repeat
    first
    | with_reducible refine step_signal m ρ K ?_ ?_ ?_
      · decide
      · revert c; decide +kernel
    | with_reducible refine step_pure ?_
      beta_reduce
      with_reducible refine step_bind ?_
      first
      | rw [k0_part2_eq_skeleton]; unfold k0_part2_skel; dsimp only
      | rw [k0_part3_eq_skeleton]; unfold k0_part3_skel; dsimp only
      | rw [k0_part4_eq_skeleton]; unfold k0_part4_skel; dsimp only
      | rw [k0_part5_eq_skeleton]; unfold k0_part5_skel; dsimp only
      | rw [k0_part6_eq_skeleton]; unfold k0_part6_skel; dsimp only
  refine step_barrier m ρ K ?_
  refine phase_barrier m ρ K ?_
  refine step_load_x m ρ K rfl ?_
  refine phase_chunks m ρ K ?_
  refine step_fill m ρ K (by decide) rfl rfl (slice_sem (base := 2) 0 (by decide) rfl) ?_
  refine step_fill m ρ K (by decide) rfl rfl (slice_sem (base := 2) 1 (by decide) rfl) ?_
  repeat
    first
    | with_reducible refine step_put m ρ K ?_ ?_ ?_ ?_
      · decide
      · rfl
      · rfl
    | with_reducible refine step_send_if m ρ K ?_ ?_ ?_ ?_
      · decide
      · revert c; decide +kernel
      rotate_left
      · intro hp hne hG
        with_reducible refine step_send m ρ K ?_ ?_ ?_ ?_ ?_ ?_ ?_ ?_
        · decide
        · exact hne
        · rfl
        · rfl
        · clear hG hne hp; revert c; decide +kernel
        · exact slice_sem (base := 4) _ (by decide) rfl
        · refine slice_sem (base := 36) _ ?_ ?_
          · have := dev_lt c; omega
          · clear hG hne hp; revert c; decide +kernel
        · exact hG
    | with_reducible refine step_keep_if m ρ K ?_ ?_ ?_ ?_
      · decide
      · revert c; decide +kernel
      rotate_left
      · intro hp he hG
        with_reducible refine step_keep m ρ K ?_ ?_ ?_ ?_ ?_
        · decide
        · exact he
        · rfl
        · intro v; exact shapeCast_shapeCast v _ _
        · exact hG
    | with_reducible refine step_take m ρ K ?_ ?_ ?_
      · decide
      · exact slice_sem (base := 2) _ (by decide) rfl
    | with_reducible refine step_refill m ρ K ?_ ?_ ?_ ?_ ?_
      · decide
      · rfl
      · rfl
      · exact slice_sem (base := 2) _ (by decide) rfl
    | with_reducible refine step_take_last m ρ K ?_ ?_ ?_
      · decide
      · exact slice_sem (base := 2) _ (by decide) rfl
    | with_reducible refine step_pure ?_
      beta_reduce
      with_reducible refine step_bind ?_
      first
      | rw [k0_part7_eq_skeleton]; unfold k0_part7_skel; dsimp only
      | rw [k0_part8_eq_skeleton]; unfold k0_part8_skel; dsimp only
      | rw [k0_part9_eq_skeleton]; unfold k0_part9_skel; dsimp only
      | rw [k0_part10_eq_skeleton]; unfold k0_part10_skel; dsimp only
      | rw [k0_part11_eq_skeleton]; unfold k0_part11_skel; dsimp only
      | rw [k0_part12_eq_skeleton]; unfold k0_part12_skel; dsimp only
      | rw [k0_part13_eq_skeleton]; unfold k0_part13_skel; dsimp only
      | rw [k0_part14_eq_skeleton]; unfold k0_part14_skel; dsimp only
      | rw [k0_part15_eq_skeleton]; unfold k0_part15_skel; dsimp only
      | rw [k0_part16_eq_skeleton]; unfold k0_part16_skel; dsimp only
      | rw [k0_part17_eq_skeleton]; unfold k0_part17_skel; dsimp only
      | rw [k0_part18_eq_skeleton]; unfold k0_part18_skel; dsimp only
      | rw [k0_part19_eq_skeleton]; unfold k0_part19_skel; dsimp only
      | rw [k0_part20_eq_skeleton]; unfold k0_part20_skel; dsimp only
      | rw [k0_part21_eq_skeleton]; unfold k0_part21_skel; dsimp only
      | rw [k0_part22_eq_skeleton]; unfold k0_part22_skel; dsimp only
      | rw [k0_part23_eq_skeleton]; unfold k0_part23_skel; dsimp only
    | with_reducible refine step_peek_y m ρ K ?_ ?_ ?_
      · decide
      · rfl
    | with_reducible refine step_load_w m ρ K ?_ ?_
      · rfl
  refine phase_maxima m ρ K (O := Ow c 0 32 31) ?_
  refine step_peek_a m ρ K ?_
  refine step_put_a m ρ K rfl rfl ?_
  with_reducible refine step_pure ?_
  beta_reduce
  with_reducible refine step_bind ?_
  rw [k0_part24_eq_skeleton]; unfold k0_part24_skel; dsimp only
  repeat
    first
    | with_reducible refine step_send_a m ρ K ?_ ?_ ?_ ?_ ?_ ?_
      · decide
      · revert c; decide +kernel
      · revert c; decide +kernel
      · exact slice_sem (base := 68) _ (by decide) rfl
      · refine slice_sem (base := 100) _ ?_ ?_
        · have := dev_lt c; omega
        · revert c; decide +kernel
    | with_reducible refine step_pure ?_
      beta_reduce
      with_reducible refine step_bind ?_
      first
      | rw [k0_part25_eq_skeleton]; unfold k0_part25_skel; dsimp only
      | rw [k0_part26_eq_skeleton]; unfold k0_part26_skel; dsimp only
      | rw [k0_part27_eq_skeleton]; unfold k0_part27_skel; dsimp only
      | rw [k0_part28_eq_skeleton]; unfold k0_part28_skel; dsimp only
      | rw [k0_part29_eq_skeleton]; unfold k0_part29_skel; dsimp only
      | rw [k0_part30_eq_skeleton]; unfold k0_part30_skel; dsimp only
      | rw [k0_part31_eq_skeleton]; unfold k0_part31_skel; dsimp only
      | rw [k0_part32_eq_skeleton]; unfold k0_part32_skel; dsimp only
      | rw [k0_part33_eq_skeleton]; unfold k0_part33_skel; dsimp only
  refine step_load_a m ρ K rfl ?_
  refine step_peek_g m ρ K (by revert c; decide +kernel) ?_
  refine step_put_g m ρ K (by revert c; decide +kernel) ?_
  refine phase_landings m ρ K (O := Ow c 31 32 31) ?_
  repeat
    first
    | with_reducible refine step_recv m ρ K ?_ ?_ ?_
      · decide
      · refine slice_sem (base := 36) _ ?_ ?_
        · exact Nat.lt_of_lt_of_le (Nat.add_lt_add_left (dev_lt _) 36) (by decide)
        · revert c; decide +kernel
    | with_reducible refine step_recv_g m ρ K ?_ ?_ ?_
      · decide
      · refine slice_sem (base := 100) _ ?_ ?_
        · exact Nat.lt_of_lt_of_le (Nat.add_lt_add_left (dev_lt _) 100) (by decide)
        · revert c; decide +kernel
    | with_reducible refine step_pure ?_
      beta_reduce
      with_reducible refine step_bind ?_
      first
      | rw [k0_part34_eq_skeleton]; unfold k0_part34_skel; dsimp only
      | rw [k0_part35_eq_skeleton]; unfold k0_part35_skel; dsimp only
      | rw [k0_part36_eq_skeleton]; unfold k0_part36_skel; dsimp only
      | rw [k0_part37_eq_skeleton]; unfold k0_part37_skel; dsimp only
      | rw [k0_part38_eq_skeleton]; unfold k0_part38_skel; dsimp only
      | rw [k0_part39_eq_skeleton]; unfold k0_part39_skel; dsimp only
      | rw [k0_part40_eq_skeleton]; unfold k0_part40_skel; dsimp only
      | rw [k0_part41_eq_skeleton]; unfold k0_part41_skel; dsimp only
      | rw [k0_part42_eq_skeleton]; unfold k0_part42_skel; dsimp only
      | rw [k0_part43_eq_skeleton]; unfold k0_part43_skel; dsimp only
      | rw [k0_part44_eq_skeleton]; unfold k0_part44_skel; dsimp only
      | rw [k0_part45_eq_skeleton]; unfold k0_part45_skel; dsimp only
      | rw [k0_part46_eq_skeleton]; unfold k0_part46_skel; dsimp only
      | rw [k0_part47_eq_skeleton]; unfold k0_part47_skel; dsimp only
      | rw [k0_part48_eq_skeleton]; unfold k0_part48_skel; dsimp only
      | rw [k0_part49_eq_skeleton]; unfold k0_part49_skel; dsimp only
      | rw [k0_part50_eq_skeleton]; unfold k0_part50_skel; dsimp only
  refine phase_results m ρ K (O := Ow c 31 32 31) ?_
  refine step_load_g m ρ K rfl ?_
  repeat
    first
    | with_reducible refine step_put_o m ρ K ?_ ?_ ?_ ?_
      · decide
      · rfl
      · rfl
    | with_reducible refine step_load_r m ρ K ?_ ?_ ?_
      · decide
      · rfl
    | with_reducible refine step_peek_o m ρ K ?_
    | with_reducible refine step_pure ?_
      beta_reduce
      with_reducible refine step_bind ?_
      first
      | rw [k0_part50_eq_skeleton]; unfold k0_part50_skel; dsimp only
      | rw [k0_part51_eq_skeleton]; unfold k0_part51_skel; dsimp only
      | rw [k0_part52_eq_skeleton]; unfold k0_part52_skel; dsimp only
      | rw [k0_part53_eq_skeleton]; unfold k0_part53_skel; dsimp only
      | rw [k0_part54_eq_skeleton]; unfold k0_part54_skel; dsimp only
      | rw [k0_part55_eq_skeleton]; unfold k0_part55_skel; dsimp only
      | rw [k0_part56_eq_skeleton]; unfold k0_part56_skel; dsimp only
      | rw [k0_part57_eq_skeleton]; unfold k0_part57_skel; dsimp only
      | rw [k0_part58_eq_skeleton]; unfold k0_part58_skel; dsimp only
      | rw [k0_part59_eq_skeleton]; unfold k0_part59_skel; dsimp only
      | rw [k0_part60_eq_skeleton]; unfold k0_part60_skel; dsimp only
  refine phase_sent m ρ K (O := Ow c 31 32 31) ?_
  repeat
    first
    | with_reducible refine step_sent_if m ρ K ?_ ?_ ?_ ?_
      · decide
      · revert c; decide +kernel
      rotate_left
      · intro hp hne hG
        with_reducible refine step_sent m ρ K ?_ ?_ ?_ ?_
        · decide
        · exact hne
        · exact slice_sem (base := 4) _ (by decide) rfl
        · exact hG
    | with_reducible refine step_pure ?_
      beta_reduce
      with_reducible refine step_bind ?_
      first
      | rw [k0_part59_eq_skeleton]; unfold k0_part59_skel; dsimp only
      | rw [k0_part60_eq_skeleton]; unfold k0_part60_skel; dsimp only
      | rw [k0_part61_eq_skeleton]; unfold k0_part61_skel; dsimp only
      | rw [k0_part62_eq_skeleton]; unfold k0_part62_skel; dsimp only
      | rw [k0_part63_eq_skeleton]; unfold k0_part63_skel; dsimp only
      | rw [k0_part64_eq_skeleton]; unfold k0_part64_skel; dsimp only
      | rw [k0_part65_eq_skeleton]; unfold k0_part65_skel; dsimp only
      | rw [k0_part66_eq_skeleton]; unfold k0_part66_skel; dsimp only
      | rw [k0_part67_eq_skeleton]; unfold k0_part67_skel; dsimp only
    | with_reducible refine step_pure ?_
      beta_reduce
      with_reducible refine step_pure ?_
      dsimp only
      with_reducible refine step_bind ?_
      rw [k0_part61_eq_skeleton]; unfold k0_part61_skel; dsimp only
  refine phase_sent_maxima m ρ K (O := Ow c 31 32 31) ?_
  repeat
    first
    | with_reducible refine step_sent_a m ρ K ?_ ?_ ?_
      · decide
      · exact slice_sem (base := 68) _ (by decide) rfl
    | with_reducible refine step_pure ?_
      beta_reduce
      with_reducible refine step_bind ?_
      first
      | rw [k0_part64_eq_skeleton]; unfold k0_part64_skel; dsimp only
      | rw [k0_part65_eq_skeleton]; unfold k0_part65_skel; dsimp only
      | rw [k0_part66_eq_skeleton]; unfold k0_part66_skel; dsimp only
      | rw [k0_part67_eq_skeleton]; unfold k0_part67_skel; dsimp only
  with_reducible refine step_pure ?_
  beta_reduce
  refine step_sent_a m ρ K (by decide) (slice_sem (base := 68) _ (by decide) rfl) ?_
  refine phase_end m ρ K ?_
  exact BIBase.Entails.trans (hQ c) (step_pure (BI.Entails.refl _))

end Cert.Exchange
-- ==== Proof.Launch.lean ====
/-
# The run of all devices

The body of one device, proved from what a device holds, becomes the run of the whole mesh: the launch makes the cells and the
tokens, every device gets its part, and at the end every array is read back.
-/
module

public import proofs.«01_k».proof.Proof.Deal
public import proofs.«01_k».proof.Proof.Body
public import proofs.«01_k».proof.Proof.Gen.KernelIdeal.Points
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline's one point -/

/-- Every cell's invariant and its mark of round 0. -/
def Recs (K : GSem nD τ sig → ℕ) : sProp 𝕄 :=
  iprop((bigSep cells fun g => cellInv ER (Rd m ρ) (K g) g) ∗ bigSep cells fun g => reached ER g 0)

instance recs_persistent (K : GSem nD τ sig → ℕ) : BI.Persistent (Recs (F := F) m ρ K) := by unfold Recs; infer_instance

/-- A device's part of the ghost state. -/
def Ghost (c : Dev nD) : sProp 𝕄 := iprop(∃ K, Recs m ρ K ∗ Pos c ∗ Mine c)
/-- What a device's run starts from, its scratch buffers apart. -/
def start (c : Dev nD) : sProp 𝕄 := iprop(Ghost m ρ c ∗ levAts L lv ∗ Creds c ∗ Hw m c)
def Φ₀ (c : Dev nD) : sProp 𝕄 := iprop(start m ρ c ∗ Scr c)
/-- And what it leaves. -/
def Φ₁ (c : Dev nD) : sProp 𝕄 := iprop(Scr c ∗ Zeros c ∗ semVal (barC c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outB m ρ c
  Φ t := match t with
    | ⟨0, _⟩ => Φ₀ m ρ c
    | ⟨_ + 1, _⟩ => Φ₁ c
  q _ := fullShare
  owed t := match t with
    | ⟨0, _⟩ => Od c 0 0 0
    | ⟨_ + 1, _⟩ => 0

theorem one_point (t : Fin cfg0.N) : t = t0_0 := fin_N0 t

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt () t0_0.succ ∗ stg c cc0_stg0_0 (xstg m ρ c) ∗ stg c cc0_stg1_0 (outB m ρ c))

theorem body_post (c : Dev nD) : iprop((∃ W, owes (c : Thread nD τ) 0 W) ∗ (Scr c ∗ Zeros c ∗ semVal (barC c) 0) ∗ xPts m ρ c
      ∗ (((c : Thread nD τ).loc cc0_stg1_0) ↦{fullShare} outB m ρ c)) ⊢ bodyPost m ρ c := by
  unfold bodyPost Φ₁ Dat.owesAt Pipeline.owesWithin
  rw [show (dats m ρ 0 c).owed t0_0.succ = 0 from rfl]
  iintro ⟨⟨%W, HO⟩, HS, Hx, Ho⟩
  isplitl [HS]; · iexact HS
  isplitl [HO]
  · iexists W
    isplitr; · ipureintro; exact fun _ _ => Or.inl trivial
    iexact HO
  isplitl [Hx]
  · iexists _; isplitr; · (ipureintro; rfl)
    unfold xPts; iexact Hx
  iexists _; isplitr; · (ipureintro; rfl)
  iexact Ho

theorem body_pre (c : Dev nD) : bodyPre m ρ c ⊢ iprop(∃ K, Pers m ρ K ∗ Ow c 0 0 0 ∗ BarSt c 0
    ∗ (cred (tallyAt (barC c) () 31) ∗ atPos ER (barC c) 0 ∅ 0) ∗ Rest0 m ρ c) := by
  unfold bodyPre Φ₀ start Ghost Recs
  iintro ⟨⟨⟨⟨%K, ⟨#HI, #HR⟩, Hpos, Hmine⟩, #Hlev, Hc, Hw⟩, Hscr⟩, Ho, ⟨%d0, %g0, %hg0, Hx⟩, ⟨%d1, %g1, %hg1, Hout⟩⟩
  have hx : g0 = xstg m ρ c := by
    rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = Od c 0 0 0 from rfl]
  ihave #HP : Pers m ρ K $$ []
  · unfold Pers
    isplitr; · iexact HI
    isplitr; · iexact HR
    iexact Hlev
  ihave H := (ready m ρ K c) $$ [Hpos Hmine Hc Hw Hscr Hx Hout]
  · isplitr; · iexact HP
    isplitl [Hpos]; · iexact Hpos
    isplitl [Hmine]; · iexact Hmine
    isplitl [Hc]; · iexact Hc
    isplitl [Hw]; · iexact Hw
    isplitl [Hscr]; · iexact Hscr
    isplitl [Hx]; · unfold xPts; iexact Hx
    unfold Out0; iexists g1; iexact Hout
  icases H with ⟨H1, H2, H3⟩
  iexists K
  isplitr; · iexact HP
  isplitl [HO]; · unfold Ow; iexists W; iexact HO
  isplitl [H1]; · iexact H1
  isplitl [H2] <;> iassumption

set_option maxRecDepth 8000 in
/-- The library's body obligation on device `c`. -/
theorem body_obligation (c : Dev nD) : BodyObligation (dats (F := F) m ρ 0 c) (defs₀ (F := F)) 𝒱₀ () Set.univ := fun t => by
  rw [one_point t]
  rw [bigSep_W0, bigSep_W0]
  simp only [owns_whole]
  show bodyPre m ρ c ⊢ WP c (cc0_body (F := F) xM (Memref.isWhole_whole _) hM (Memref.isWhole_whole _) oM (Memref.isWhole_whole _) wM (Memref.isWhole_whole _) yM (Memref.isWhole_whole _)
         rM (Memref.isWhole_whole _) aM (Memref.isWhole_whole _) gM (Memref.isWhole_whole _) cc0_scratch5 cc0_scratch6 cc0_scratch7 cc0_scratch8 cc0_scratch9) (fun _ => bodyPost m ρ c)
  refine (body_pre m ρ c).trans ?_
  iintro ⟨%K, H⟩
  iapply (walk m ρ K (Q := fun c _ => bodyPost m ρ c) (body_post m ρ)); iexact H

/-! ## The launch -/

/-- The semaphores the kernel allocates. -/
abbrev osem : Fin 130 → SemLoc sig := fun k => dq (2 + k.val)

theorem ownSemFacts : Pipeline.OwnSemFacts cfg0.spec osem := by decide +kernel

theorem share_eq (c : Dev nD) (w : Fin cfg0.W) : (dats m ρ 0 c).share w = fullShare := by unfold Dat.share; split <;> rfl

/-- Which duty's token: the device that pays, the cell, the round. -/
abbrev tokOf (x : Dev nD × (Dev nD × Fin 131) × Fin 4) : GSem nD τ sig × ℕ × Dev nD := (kcell x.2.1, x.2.2.val, x.1)
theorem tokOf_injective : Function.Injective tokOf := fun a b h => by
  obtain ⟨d, g, r⟩ := a; obtain ⟨d', g', r'⟩ := b
  have h1 : kcell g = kcell g' := congrArg Prod.fst h
  have h2 : r.val = r'.val := congrArg (fun x : GSem nD τ sig × ℕ × Dev nD => x.2.1) h
  have h3 : d = d' := congrArg (fun x : GSem nD τ sig × ℕ × Dev nD => x.2.2) h
  rw [h3, kcell_injective h1, Fin.ext h2]
def toks : Finset (GSem nD τ sig × ℕ × Dev nD) := Finset.univ.map ⟨tokOf, tokOf_injective⟩

def u₀ : UU :=
  (initOf (Pipeline.cells cfgs cellOf_inj) (Pipeline.launchToks cfgs cellOf_inj), initOf cells toks)

/-- What the launch makes for a device: the state and the mark of each of its cells, its places, and the tokens of its duties. -/
def G (c : Dev nD) : sProp 𝕄 :=
  iprop((bigSep (Finset.univ : Finset (Fin 131)) fun i => roundState ER (Rd m ρ) (kcell (c, i)) 0)
    ∗ (bigSep (Finset.univ : Finset (Fin 131)) fun i => reached ER (kcell (c, i)) 0) ∗ Pos c ∗ Mine c)

omit [FloatOps F] in
theorem cells_by_device (Φ : GSem nD τ sig → sProp 𝕄) :
    bigSep cells Φ = bigSep Finset.univ fun c : Dev nD => bigSep (Finset.univ : Finset (Fin 131)) fun i => Φ (kcell (c, i)) := by
  unfold cells; rw [bigSep_map, bigSep_univ_prod]; rfl
omit [FloatOps F] in
theorem toks_by_device : bigSep toks (fun x => (dutyTok ER x.1 x.2.1 x.2.2 : sProp 𝕄)) = bigSep Finset.univ fun c : Dev nD => Mine c := by
  unfold toks; rw [bigSep_map, bigSep_univ_prod]
  refine bigSep_congr fun c _ => ?_
  unfold Mine Four
  rw [bigSep_univ_prod, bigSep_univ_prod]; rfl

theorem fund : BI.own (ER (initOf cells toks)) ⊢ (|==> bigSep Finset.univ (G m ρ) : sProp 𝕄) := by
  iintro HX
  imod (Rounds.fund ER (Rd m ρ) cells toks) $$ HX with ⟨Hst, Hr, Hat, Htok⟩
  imodintro
  ihave Hst := (Entails.of_eq (cells_by_device fun g => roundState ER (Rd m ρ) g 0)) $$ Hst
  ihave Hat := (Entails.of_eq (cells_by_device fun g => atPos ER g 0 ∅ 0)) $$ Hat
  ihave Hr := (Entails.of_eq (cells_by_device fun g => reached ER g 0)) $$ Hr
  ihave Htok := (Entails.of_eq toks_by_device) $$ Htok
  unfold G Pos; simp only [bigSep_sep']
  isplitl [Hst]; · iexact Hst
  isplitl [Hr]; · iexact Hr
  isplitl [Hat] <;> iassumption

omit [FloatOps F] in
theorem ownSems0_eq (c : Dev nD) : (Pipeline.ownSems0 (Ix := Unit) (Name := ℕ) (U := UU) (Lvl := ℕ) (Val := Elt F) (τ := τ) osem c : sProp 𝕄) = Zeros c := by
  unfold Pipeline.ownSems0 Zeros
  exact over_fin 130 fun i => (semVal ((c : Thread nD τ), dq (2 + i)) 0 : sProp 𝕄)
omit [FloatOps F] in
theorem unscopedSems0_eq (c : Dev nD) : (unscopedSems0 c : sProp 𝕄) = semVal (barC c) 0 := by
  unfold unscopedSems0; rw [bigSep_eq_bigSepL_of_eq [SemLoc.reg barS] (by decide +kernel) (by decide)]; rfl

/-- Each device's cells are given their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep (Finset.univ : Finset (Fin 131)) fun i => iprop(∃ κ : ℕ, cellInv ER (Rd m ρ) κ (kcell (c, i))))
          ∗ (bigSep (Finset.univ : Finset (Fin 131)) fun i => reached ER (kcell (c, i)) 0) ∗ Pos c ∗ Mine c) := by
  unfold G
  rw [ownSems0_eq, unscopedSems0_eq]
  iintro ⟨Hz, Hb, Hst, Hrest⟩
  ihave Hv := (Entails.of_eq (over_cells c fun g => (semVal g 0 : sProp 𝕄)).symm) $$ [Hz Hb]
  · isplitl [Hb]; · iexact Hb
    unfold Zeros; iexact Hz
  imod (show iprop((bigSep (Finset.univ : Finset (Fin 131)) fun i => semVal (kcell (c, i)) 0) ∗ bigSep (Finset.univ : Finset (Fin 131)) fun i => roundState ER (Rd m ρ) (kcell (c, i)) 0)
      ⊢ (|={Set.univ}=> bigSep (Finset.univ : Finset (Fin 131)) fun i => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  iexact Hrest

theorem ghost_intro (K : GSem nD τ sig → ℕ) (c : Dev nD) : iprop(Recs m ρ K ∗ Pos c ∗ Mine c) ⊢ Ghost m ρ c := by
  unfold Ghost
  iintro H
  iexists K; iexact H

omit [FloatOps F] in
/-- What lasts is there for every device. -/
theorem to_all {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep (Finset.univ : Finset (Fin 131)) fun i => iprop(∃ κ : ℕ, cellInv ER (Rd m ρ) κ (kcell (c, i))))
          ∗ (bigSep (Finset.univ : Finset (Fin 131)) fun i => reached ER (kcell (c, i)) 0) ∗ Pos c ∗ Mine c) : sProp 𝕄)
      ⊢ bigSep Finset.univ (Ghost m ρ) := by
  rw [bigSep_sep', bigSep_sep', ← cells_by_device fun g => iprop(∃ κ : ℕ, cellInv ER (Rd m ρ) κ g), ← cells_by_device fun g => reached ER g 0]
  iintro ⟨HI, #HR, Hrest⟩
  ihave HK := (BI.bigSep_exists_pi cells (fun (g : GSem nD τ sig) (κ : ℕ) => (cellInv ER (Rd m ρ) κ g : sProp 𝕄))) $$ HI
  icases HK with ⟨%K, #HI⟩
  iapply (to_all (R := Recs m ρ K) (ghost_intro m ρ K))
  isplitr
  · unfold Recs; isplitl; · iexact HI
    iexact HR
  · iexact Hrest

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (Ghost m ρ) :=
  ((bigSep_mono fun c _ => core_alloc m ρ c).trans (bigSep_fupd _ _)).trans (BI.fupd_mono (regroup m ρ))

omit [FloatOps F] in
/-- The weights: half for the copies, in as many shares as there are blocks, and half kept. -/
theorem weights (c : Dev nD) : (hPts m c fullShare : sProp 𝕄) ⊢ iprop(hPts m c fullShare.left ∗ Hw m c) := by
  unfold hPts Hw
  iintro H
  ihave H := (pointsTo_share (PosShare.mem_left_op_right fullShare)).1 $$ H
  icases H with ⟨Hl, Hr⟩
  isplitl [Hl]; · iexact Hl
  ihave Hr := (Transfers.pointsTo_toks_range fullShare.right 8).1 $$ Hr
  icases Hr with ⟨-, Hr⟩
  unfold hPts
  iexact Hr

theorem start_intro (c : Dev nD) :
    iprop(Pipeline.unscopedRestP Pipeline.Prefetch.none cfg0.spec c (fun b => m ((c : Thread nD τ).loc b)) ∗ levAts L lv
        ∗ Pipeline.launchCred (fun c => Od c 0 0 0) c ∗ prngReg c (ρ c) ∗ Ghost m ρ c)
      ⊢ |={Set.univ}=> iprop(start m ρ c ∗ hPts m c fullShare.left) := by
  rw [Pipeline.unscopedRestP_none]
  rw [show cfg0.spec = spec0 from rfl, unscopedRest0_eq]
  iintro ⟨Hm, Hlev, Hcr, -, HG⟩
  ihave Hc := (creds (F := F) c) $$ Hcr
  ihave Hm := (weights m c) $$ [Hm]
  · unfold hPts wmat; iexact Hm
  icases Hm with ⟨Hl, Hw⟩
  imodintro
  unfold start
  isplitr [Hl]
  · isplitl [HG]; · iexact HG
    isplitl [Hlev]; · iexact Hlev
    isplitl [Hc] <;> iassumption
  · iexact Hl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show cfg0.spec = spec0 from rfl, scopedRest0_eq]
  unfold Φ₀ Scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show cfg0.spec = spec0 from rfl, scopedRest0_eq, ownSems0_eq, unscopedSems0_eq]
  unfold Φ₁ Scr
  iintro ⟨Hr, Hz, Hb⟩
  isplitl [Hb]; · iexact Hb
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait c _ (l := 0) (by fin_cases w <;> fin_cases s <;> decide) (by
      rcases t with ⟨_ | _, ht⟩
      · exact above_start c 0 0 0
      · exact Above.zero 0)

/-! ## The run -/

/-- What a window's array holds at the end. -/
def finalA (c : Dev nD) (w : Fin cfg0.W) : Buf (Elt F) ((cfg0.win w).arr.view.loc (c : Thread nD τ)) := (dats m ρ 0 c).arrAt w cfg0.N

/-- Every window's array at its final contents, the weights as they were, and every counter at zero. -/
def Final : PUnit × MemSt nD τ sig (Elt F) → Prop := fun r =>
  (∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)) ∧ r.2.sem = fun _ => 0

omit [FloatOps F] in
theorem read_weights (c : Dev nD) (s' : Phys nD τ sig (Elt F)) : iprop(hPts m c fullShare.left ∗ SI s')
    ⊢ (⌜s'.mem.mem ((c : Thread nD τ).loc main_arg1) = m ((c : Thread nD τ).loc main_arg1)⌝ : sProp 𝕄) := by
  unfold hPts wmat
  iintro ⟨H, HSI⟩
  ihave %h := (SI_pointsTo_agree) $$ [H HSI]
  · isplitl [HSI] <;> iassumption
  ipureintro
  exact funext fun i => h i (Finset.mem_univ i)

set_option maxRecDepth 8000 in
/-- From any memory with all counters at zero, every fair run of the 32 devices ends, and ends so. -/
theorem run_main : θ_run defs (onTc (τ := τ) (main (F := F))) (s₀ m ρ) (Final m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := fun c => Od c 0 0 0) (howed₀ := fun _ => rfl) (howedN := fun _ => rfl)
    (L := L) (lv := lv) (hL := L_of_ne) (hwaits := waits m ρ)
    (G := G m ρ) (G' := Ghost m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun c => hPts m c fullShare.left)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      iintro ⟨Hu, Hw, HSI⟩
      ihave %hw := (read_weights m c s') $$ [Hw HSI]
      · isplitl [Hw] <;> iassumption
      imod (Pipeline.unscopedSems0_read (X := unscopedSems0 c) (c := c) fupd_intro s') $$ [Hu HSI] with ⟨%hs, HSI⟩
      · isplitl [Hu] <;> iassumption
      imodintro
      isplitr; · ipureintro; exact ⟨hw, hs⟩
      iexact HSI)
    (hQ := fun _ h hs => ⟨fun c => ⟨fun w => (h c).1 w, (h c).2.2.1⟩, sem_eq_zero hs fun c => (h c).2.2.2⟩)

/-- The activations' array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Exchange

end
-- ==== Proof.Frames.lean ====
/-
# The frames

The kernel and its reading over the extended reals have the same text, so the one run, made over any float values, gives both
frames: the program ends, its arguments are unchanged, every counter is at zero.
-/
module

public import proofs.«01_k».proof.Defs
public import proofs.«01_k».proof.Proof.Launch
public import proofs.«01_k».proof.Proof.Gen.Kernel

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (ρ : Dev nD → PrngReg)

theorem final_frame {r : PUnit × MemSt nD τ sig (Elt F)} (h : Final m ρ r) : (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  ⟨fun c => ⟨((h.1 c).1 (0 : Fin 2)).trans (finalA_x m ρ c), (h.1 c).2⟩, h.2⟩

theorem frame_ideal : Cert.quiescent_KernelIdeal := fun m ρ _ =>
  (θ_run Cert.KernelIdeal.defs _ _).mono (fun _ h => final_frame m ρ h) (run_main (F := Ideal) m ρ)

/-- The two programs have one text, so the bodies of their launches agree label by label. -/
theorem bodies_eq : (Cert.Kernel.defs₀ (F := Bits)) = (Cert.KernelIdeal.defs₀ (F := Bits)) := by
  funext p l
  match p with
  | .tc =>
    funext x
    match l, x with
    | ⟨0, _⟩, (t, s) => exact rfl
    | ⟨_ + 1, h⟩, _ => exact absurd h (Nat.not_lt.2 (Nat.le_add_left _ _))
  | .scScalar _ => rfl
  | .scVector _ _ => rfl

theorem defs_eq : (Cert.Kernel.defs (F := Bits)) = (Cert.KernelIdeal.defs (F := Bits)) :=
  congrArg (Pipeline.defs Cert.KernelIdeal.pcfgs) bodies_eq

/-- The kernel as written leaves its arguments alone. -/
theorem frame_kernel : Cert.quiescent_Kernel := fun m ρ _ =>
  (congrArg (fun D => θ_run D (onTc (Cert.KernelIdeal.main (F := Bits))) (s₀ m ρ) _) defs_eq).mpr
    ((θ_run Cert.KernelIdeal.defs _ _).mono (fun _ h => final_frame m ρ h) (run_main (F := Bits) m ρ))

end Cert.Exchange

end
-- ==== Proof.Product.lean ====
/-
# What a device computes, read entry by entry

Over the extended reals a weight block's product with relu is, at row `r` and column `j`, the greater of zero and the sum of
the products along the contracted axis. The four column chunks of a block are its entries, and its maximum bounds them
all, and nothing else but zero.
-/
module

public import proofs.«01_k».proof.Proof.Base
public import Idealize.ShloMosaic.Lib.Pointwise
public import Idealize.ShloMosaic.PureOps.Ideal.Laws

@[expose] public section

set_option maxRecDepth 16384

noncomputable section

namespace Cert.Exchange

open Cert.KernelIdeal Cert.KernelIdeal.Gen

open Idealize.ShloMosaic
open Idealize.ShloMosaic.TcCoe

/-- The block's entry at row `r`, column `j`. -/
def entry (x : Vec Ideal S128x4096 .f32) (w : Vec Ideal S1x4096x1024 .f32) (r : Fin 128) (j : Fin 1024) : EReal :=
  max (∑ k : Fin 4096, x (ix2 r k) * w (ix3 (0 : Fin 1) k j)) 0

theorem prod_first (x : Vec Ideal S128x4096 .f32) (w : Vec Ideal S1x4096x1024 .f32) (r : Fin 128) (j : Fin 1024) :
    k0_pay2 (F := Ideal) (k0_pay1 x) w (ix2 r j) = entry x w r j := by
  pointwise [k0_pay2, k0_pay1, entry]

theorem prod_next (x : Vec Ideal S128x4096 .f32) (w : Vec Ideal S1x4096x1024 .f32) (r : Fin 128) (j : Fin 1024) :
    k0_pay13 (F := Ideal) (k0_pay1 x) w (ix2 r j) = entry x w r j := by
  pointwise [k0_pay13, k0_pay1, entry]

theorem chunk_0 (x : Vec Ideal S128x4096 .f32) (w : Vec Ideal S1x4096x1024 .f32) (r : Fin 128) (j : Fin 256) :
    k0_pay5 (F := Ideal) (k0_pay1 x) w (ix3 (0 : Fin 1) r j) = entry x w r ⟨j.val, by omega⟩ := by
  pointwise [k0_pay5, k0_pay4, prod_first]

theorem chunk_1 (x : Vec Ideal S128x4096 .f32) (w : Vec Ideal S1x4096x1024 .f32) (r : Fin 128) (j : Fin 256) :
    k0_pay7 (F := Ideal) (k0_pay1 x) w (ix3 (0 : Fin 1) r j) = entry x w r ⟨256 + j.val, by omega⟩ := by
  pointwise [k0_pay7, k0_pay4, prod_first]

theorem chunk_2 (x : Vec Ideal S128x4096 .f32) (w : Vec Ideal S1x4096x1024 .f32) (r : Fin 128) (j : Fin 256) :
    k0_pay9 (F := Ideal) (k0_pay4 (k0_pay1 x) w) (ix3 (0 : Fin 1) r j) = entry x w r ⟨512 + j.val, by omega⟩ := by
  pointwise [k0_pay9, k0_pay4, prod_first]

theorem chunk_3 (x : Vec Ideal S128x4096 .f32) (w : Vec Ideal S1x4096x1024 .f32) (r : Fin 128) (j : Fin 256) :
    k0_pay11 (F := Ideal) (k0_pay4 (k0_pay1 x) w) (ix3 (0 : Fin 1) r j) = entry x w r ⟨768 + j.val, by omega⟩ := by
  pointwise [k0_pay11, k0_pay4, prod_first]

/-! ## Maxima -/

theorem lowest : Ideal.ofBits .f32 0xFF800000#32 = (⊥ : EReal) := by
  simp [Ideal.ofBits, Ideal.ieee]

/-- A maximum over all of an array, from minus infinity, lies below `b` exactly when every entry does. -/
theorem total_le {s t : Shape} {axes : List (Fin s.rank)} (v : FVec Ideal s .f32) (h : s.Reduces axes t)
    (ht : ∀ a, t.size a = 1) (hφ : FKind.Formats .f32) (hacc : (0xFF800000#32 : BitVec 32) = FKind.maximumf.neutral .f32 hφ)
    (j : t.Idx) (b : EReal) :
    (multiReduction .maximumf axes t v 0xFF800000#32 h hφ hacc j : EReal) ≤ b ↔ ∀ i, (v i : EReal) ≤ b := by
  rw [multiReduction_maximumf_eq_fold, Finset.filter_true_of_mem fun i _ => funext fun a => Fin.ext (by
    have := (h.drop i a).isLt; have := (j a).isLt; have := ht a; omega)]
  refine (Finset.fold_max_le (α := s.Idx) (β := EReal) (f := v) (s := Finset.univ) (b := Ideal.ofBits .f32 0xFF800000#32) b).trans ?_
  rw [lowest]
  exact ⟨fun H i => H.2 i (Finset.mem_univ i), fun H => ⟨bot_le, fun i _ => H i⟩⟩

theorem size_one : ∀ a, S1.size a = 1 := by decide

/-- Every entry of the block lies below `b`. -/
def Below (x : Vec Ideal S128x4096 .f32) (w : Vec Ideal S1x4096x1024 .f32) (b : EReal) : Prop :=
  ∀ (r : Fin 128) (j : Fin 1024), entry x w r j ≤ b

theorem cast_le (v : FVec Ideal S128x1024 .f32) (b : EReal) :
    (∀ i, (shapeCast S1x128x1024 v shapeCasts_S128x1024_S1x128x1024 i : EReal) ≤ b)
      ↔ ∀ (r : Fin 128) (j : Fin 1024), (v (ix2 r j) : EReal) ≤ b := by
  refine ⟨fun H r j => ?_, fun H i => ?_⟩
  · have := H (ix3 (0 : Fin 1) r j)
    pointwise at this
    exact this
  · idx_vars i
    pointwise
    exact H _ _

/-- The greatest entry of a block. -/
def peak (v : FVec Ideal S128x1024 .f32) : EReal :=
  extractAt ![0, 0, 0] (shapeCast S1x1x1 (multiReduction .maximumf [1, 2] S1 (shapeCast S1x128x1024 v shapeCasts_S128x1024_S1x128x1024)
    0xFF800000#32 reduces_S1x128x1024_S1 (.inl rfl) rfl) shapeCasts_S1_S1x1x1) inpos_S1x1x1_p0_0_0

theorem peak_le (v : FVec Ideal S128x1024 .f32) (b : EReal) :
    peak v ≤ b ↔ ∀ (r : Fin 128) (j : Fin 1024), (v (ix2 r j) : EReal) ≤ b :=
  (total_le _ _ size_one (.inl rfl) rfl _ b).trans (cast_le v b)

theorem zero_word : (Scalar.ofBits (F := Ideal) .f32 0x00000000#32 : EReal) = 0 := Ideal.ofBits_zero_f32

/-- The first column block's maximum is taken together with zero. -/
theorem first_le (x : Vec Ideal S128x4096 .f32) (w : Vec Ideal S1x4096x1024 .f32) (b : EReal) :
    (k0_pay3 (F := Ideal) (k0_pay1 x) w : EReal) ≤ b ↔ 0 ≤ b ∧ Below x w b := by
  unfold k0_pay3
  dsimp only
  rw [Ideal.scalar_maximumf_def]
  change max (Scalar.ofBits (F := Ideal) .f32 0x00000000#32 : EReal) (peak (k0_pay2 (k0_pay1 x) w)) ≤ b ↔ _
  rw [max_le_iff, zero_word, peak_le]
  exact and_congr Iff.rfl (forall_congr' fun r => forall_congr' fun j => by rw [prod_first])

/-- A later one together with the maximum before it. -/
theorem next_le (x : Vec Ideal S128x4096 .f32) (y : EReal) (w : Vec Ideal S1x4096x1024 .f32) (b : EReal) :
    (k0_pay14 (F := Ideal) (k0_pay1 x) y w : EReal) ≤ b ↔ y ≤ b ∧ Below x w b := by
  unfold k0_pay14
  dsimp only
  rw [Ideal.scalar_maximumf_def]
  change max y (peak (k0_pay13 (k0_pay1 x) w)) ≤ b ↔ _
  rw [max_le_iff, peak_le]
  exact and_congr Iff.rfl (forall_congr' fun r => forall_congr' fun j => by rw [prod_next])

/-- The maximum of the gathered tiles. -/
theorem gathered_le (v : Vec Ideal S32x8x128 .f32) (b : EReal) :
    (k0_pay95 (F := Ideal) v : EReal) ≤ b ↔ ∀ (s : Fin 32) (p : Fin 8) (q : Fin 128), (v (ix3 s p q) : EReal) ≤ b := by
  unfold k0_pay95
  refine (total_le _ _ size_one (.inl rfl) rfl _ b).trans ⟨fun H s p q => ?_, fun H i => ?_⟩
  · have := H (ix4 (0 : Fin 1) s p q)
    pointwise at this
    exact this
  · idx_vars i
    pointwise
    exact H _ _ _

/-- A device's tile holds its maximum everywhere. -/
theorem tile (y : EReal) (p : Fin 8) (q : Fin 128) : k0_pay93 (F := Ideal) y (ix2 p q) = y := by
  pointwise [k0_pay93]

/-- One entry of the result: the chunk's entry, scaled to the e4m3 range and back. -/
theorem scaled (d u : EReal) (v : Vec Ideal S1x128x256 .bf16) (r : Fin 128) (j : Fin 256) :
    k0_pay102 (F := Ideal) d u v (ix2 r j) = ((v (ix3 (0 : Fin 1) r j) : EReal) * u) * d := by
  pointwise [k0_pay102]

end Cert.Exchange

end
-- ==== Proof.Rescale.lean ====
/-
# The rescaling of one entry

The kernel multiplies an entry `y` of the product by `448 / g` and by `g / 448`, where `g` is the greatest entry. The
reference divides by `g / 448`, splits the quotient in its sign and its absolute value, clips at 448, and multiplies by
`g / 448`. Over the extended reals the two agree for every `0 ≤ y ≤ g`, the corners `g = 0` and `g = ⊤` included: there
both are zero.
-/
module

public import Idealize.ShloMosaic.PureOps.Ideal.Laws

@[expose] public section

noncomputable section

namespace Cert.Exchange

open Idealize.ShloMosaic

/-- The greatest e4m3 value, as both programs write it. -/
abbrev top8 : EReal := Ideal.ofBits .f32 0x43E00000#32

theorem top8_eq : top8 = ((448 : ℝ) : EReal) := by
  simp [top8, Ideal.ofBits, Ideal.ieee, -EReal.coe_mul]; norm_num

theorem div_real {a b : ℝ} (h : b ≠ 0) : Ideal.div (a : EReal) (b : EReal) = ((a / b : ℝ) : EReal) := by
  rw [Ideal.div_coe h, ← EReal.coe_mul, mul_one_div]

/-- What the kernel makes of an entry. -/
def there (y g : EReal) : EReal := (y * Ideal.div top8 g) * Ideal.div g top8
/-- What the reference makes of it. -/
def back (y g : EReal) : EReal :=
  (Ideal.sign (Ideal.div y (Ideal.div g top8)) * min (max (Ideal.div y (Ideal.div g top8)) (-(Ideal.div y (Ideal.div g top8)))) top8)
    * Ideal.div g top8

theorem there_real {y g : ℝ} (hg : 0 < g) : there y g = y := by
  unfold there
  rw [top8_eq, div_real hg.ne', div_real (by norm_num), ← EReal.coe_mul, ← EReal.coe_mul]
  congr 1
  field_simp

theorem back_real {y g : ℝ} (h0 : 0 ≤ y) (hy : y ≤ g) (hg : 0 < g) : back y g = y := by
  unfold back
  rw [top8_eq, div_real (by norm_num), div_real (by positivity)]
  rcases h0.eq_or_lt with rfl | h
  · rw [zero_div, EReal.coe_zero, Ideal.sign_zero, zero_mul, zero_mul]
  · have hq : 0 < y / (g / 448) := by positivity
    have hl : y / (g / 448) ≤ 448 := by rw [div_le_iff₀ (by positivity)]; linarith
    rw [Ideal.sign_of_pos (by exact_mod_cast hq), max_eq_left (by rw [← EReal.coe_neg]; exact_mod_cast (by linarith)),
      min_eq_left (by exact_mod_cast hl), one_mul, ← EReal.coe_mul]
    congr 1
    field_simp

/-- The two agree. -/
theorem there_eq_back {y g : EReal} (h0 : 0 ≤ y) (hy : y ≤ g) : there y g = back y g := by
  induction g using EReal.rec with
  | bot => exact absurd (h0.trans hy) (by simp)
  | top =>
    have h1 : Ideal.div top8 ⊤ = 0 := by rw [Ideal.div, if_neg (by simp), EReal.inv_top, mul_zero]
    have h2 : Ideal.div ⊤ top8 = ⊤ := by
      rw [top8_eq, Ideal.div_coe (by norm_num), EReal.top_mul_coe_of_pos (by norm_num)]
    have h3 : Ideal.div y ⊤ = 0 := by rw [Ideal.div, if_neg (by simp), EReal.inv_top, mul_zero]
    unfold there back
    rw [h1, h2, h3, mul_zero, zero_mul, Ideal.sign_zero, zero_mul, zero_mul]
  | coe g =>
    induction y using EReal.rec with
    | bot => exact absurd h0 (by simp)
    | top => exact absurd hy (by simp)
    | coe y =>
      have h0' : 0 ≤ y := by exact_mod_cast h0
      have hy' : y ≤ g := by exact_mod_cast hy
      rcases (h0'.trans hy').eq_or_lt with h | h
      · obtain rfl : y = 0 := le_antisymm (by rw [h]; exact hy') h0'
        have hz : Ideal.div ((g : ℝ) : EReal) top8 = 0 := by rw [← h, top8_eq, div_real (by norm_num), zero_div]; rfl
        unfold there back
        rw [hz, mul_zero, mul_zero]
      · rw [there_real h, back_real h0' hy' h]

end Cert.Exchange

end
-- ==== Proof.Whole.lean ====
/-
# The result as a function of the whole arrays

Let `X` be the activations of all devices and `W` the weights. Every device's chunks are entries of `relu (X W)`, the
gathered maximum is the greatest of them, and a device's result is its 256 columns of that product, each entry
rescaled by the greatest.
-/
module

public import proofs.«01_k».proof.Proof.Product
public import proofs.«01_k».proof.Proof.Rescale
public import proofs.«01_k».proof.Proof.Launch
public import Idealize.ShloMosaic.Lib.Layout

@[expose] public section

set_option maxRecDepth 16384

noncomputable section

namespace Cert.Exchange

open Cert.KernelIdeal Cert.KernelIdeal.Gen

open Idealize.ShloMosaic
open Idealize.ShloMosaic.TcCoe

/-- The product with relu, at row `r` and column `k`. -/
def relu (X : (⟨2, ![4096, 4096]⟩ : Shape).Idx → EReal) (W : (⟨2, ![4096, 8192]⟩ : Shape).Idx → EReal) (r : Fin 4096) (k : Fin 8192) : EReal :=
  max (∑ t : Fin 4096, X (ix2 r t) * W (ix2 t k)) 0

theorem relu_nonneg (X W) (r : Fin 4096) (k : Fin 8192) : 0 ≤ relu X W r k := le_max_right _ _

theorem relu_congr (X W) {r r' : Fin 4096} {k k' : Fin 8192} (hr : r.val = r'.val) (hk : k.val = k'.val) :
    relu X W r k = relu X W r' k' := by rw [Fin.ext hr, Fin.ext hk]

variable (m : (ℓ : Loc nD τ sig) → Buf (Elt Ideal) ℓ) (ρ : Dev nD → PrngReg)

/-- The staged activations are the argument. -/
theorem xstg_eq (c : Dev nD) : xstg m ρ c = m ((c : Thread nD τ).loc main_arg0) := by
  have hz : (fun a => win0_0.index t0_0 a * main_arg0.ty.shape.size a) = fun _ => 0 := funext fun a => by fin_cases a <;> decide
  exact Memref.read_access_unit_zero (Elt Ideal) main_arg0 hz (fun a => by rw [congrFun hz a]; simp) _

variable (X : (⟨2, ![4096, 4096]⟩ : Shape).Idx → EReal) (W : (⟨2, ![4096, 8192]⟩ : Shape).Idx → EReal)

/-- The devices hold their parts of `X` and copies of `W`. -/
def Holds : Prop := ∀ c : Dev nD,
  m ((c : Thread nD τ).loc main_arg0) = Layout.block ⟨2, ![128, 4096]⟩ ⟨2, ![4096, 4096]⟩ 0 32 c X
    ∧ m ((c : Thread nD τ).loc main_arg1) = W

variable {m X W}

theorem xstg_at (H : Holds m X W) (c : Dev nD) (r : Fin 128) (t : Fin 4096) :
    (xstg m ρ c (ix2 r t) : EReal) = X (ix2 (⟨128 * c.val + r.val, by have := dev_lt c; omega⟩ : Fin 4096) t) := by
  rw [xstg_eq, (H c).1, Layout.block_apply]
  refine congrArg X (funext fun a => Fin.ext ?_)
  match a with
  | ⟨0, _⟩ => rw [Layout.Tiles.idx_val]; show c.val * 128 + r.val = 128 * c.val + r.val; omega
  | ⟨1, _⟩ => rw [Layout.Tiles.idx_val]; rfl

theorem weight_at (H : Holds m X W) (c : Dev nD) (b : ℕ) (t : Fin 4096) (j : Fin 1024) :
    (WV m c b (ix3 (0 : Fin 1) t j) : EReal) = W (ix2 t (⟨1024 * (b % 8) + j.val, by omega⟩ : Fin 8192)) :=
  congrFun (H c).2 _

theorem entry_at (H : Holds m X W) (c : Dev nD) (b : ℕ) (r : Fin 128) (j : Fin 1024) :
    entry (xstg m ρ c) (WV m c b) r j
      = relu X W ⟨128 * c.val + r.val, by have := dev_lt c; omega⟩ ⟨1024 * (b % 8) + j.val, by omega⟩ := by
  unfold entry relu
  exact congrArg (fun s : EReal => max s 0) (Finset.sum_congr rfl fun t _ => by rw [xstg_at ρ H, weight_at H])

/-- A device's column chunk `k`. -/
theorem chunk_at (H : Holds m X W) (c : Dev nD) {k : ℕ} (hk : k < 32) (r : Fin 128) (j : Fin 256) :
    (CH m ρ c k (ix3 (0 : Fin 1) r j) : EReal)
      = relu X W ⟨128 * c.val + r.val, by have := dev_lt c; omega⟩ ⟨256 * k + j.val, by omega⟩ := by
  have h4 : k % 4 = 0 ∨ k % 4 = 1 ∨ k % 4 = 2 ∨ k % 4 = 3 := by omega
  unfold CH xbf
  rcases h4 with h | h | h | h <;> rw [h]
  · exact (chunk_0 _ _ r j).trans ((entry_at ρ H c _ r _).trans (relu_congr X W rfl (by show 1024 * (k / 4 % 8) + j.val = 256 * k + j.val; omega)))
  · exact (chunk_1 _ _ r j).trans ((entry_at ρ H c _ r _).trans (relu_congr X W rfl (by show 1024 * (k / 4 % 8) + (256 + j.val) = 256 * k + j.val; omega)))
  · exact (chunk_2 _ _ r j).trans ((entry_at ρ H c _ r _).trans (relu_congr X W rfl (by show 1024 * (k / 4 % 8) + (512 + j.val) = 256 * k + j.val; omega)))
  · exact (chunk_3 _ _ r j).trans ((entry_at ρ H c _ r _).trans (relu_congr X W rfl (by show 1024 * (k / 4 % 8) + (768 + j.val) = 256 * k + j.val; omega)))

/-- The running maximum bounds zero and the blocks so far. -/
theorem running_le (c : Dev nD) (b : EReal) : ∀ n : ℕ,
    (mx m ρ c (n + 1) : EReal) ≤ b ↔ 0 ≤ b ∧ ∀ i ≤ n, Below (xstg m ρ c) (WV m c i) b
  | 0 => by
    refine (first_le (xstg m ρ c) (WV m c 0) b).trans (and_congr Iff.rfl ⟨fun h i hi => ?_, fun h => h 0 le_rfl⟩)
    rw [Nat.le_zero.mp hi]; exact h
  | n + 1 => by
    refine (next_le (xstg m ρ c) (mx m ρ c (n + 1)) (WV m c (n + 1)) b).trans ?_
    rw [running_le c b n, and_assoc]
    refine and_congr Iff.rfl ⟨fun h i hi => ?_, fun h => ⟨fun i hi => h i (by omega), h (n + 1) le_rfl⟩⟩
    rcases Nat.lt_or_ge n i with h' | h'
    · rw [show i = n + 1 by omega]; exact h.2
    · exact h.1 i h'

theorem device_le (H : Holds m X W) (c : Dev nD) (b : EReal) :
    (mx m ρ c 8 : EReal) ≤ b ↔ 0 ≤ b ∧ ∀ (r : Fin 128) (k : Fin 8192),
      relu X W ⟨128 * c.val + r.val, by have := dev_lt c; omega⟩ k ≤ b := by
  refine (running_le ρ c b 7).trans (and_congr Iff.rfl ⟨fun h r k => ?_, fun h i hi r j => ?_⟩)
  · have := h (k.val / 1024) (by omega) r ⟨k.val % 1024, by omega⟩
    rw [entry_at ρ H] at this
    refine le_of_eq_of_le (relu_congr X W rfl ?_) this
    show k.val = 1024 * (k.val / 1024 % 8) + k.val % 1024
    omega
  · rw [entry_at ρ H]; exact h r _

/-- The gathered tiles hold the devices' maxima. -/
theorem gathered_at (s : Fin 32) (p : Fin 8) (q : Fin 128) : (GB m ρ (ix3 s p q) : EReal) = mx m ρ (dv s.val) 8 := by
  unfold GB AM
  exact tile (mx m ρ (dv s.val) 8) p q

/-- The greatest entry, as every device finds it. -/
def peakAll : EReal := k0_pay95 (F := Ideal) (GB m ρ)

theorem peakAll_le (H : Holds m X W) (b : EReal) :
    peakAll (m := m) ρ ≤ b ↔ ∀ (r : Fin 4096) (k : Fin 8192), relu X W r k ≤ b := by
  refine (gathered_le (GB m ρ) b).trans ⟨fun h r k => ?_, fun h s p q => ?_⟩
  · have := h ⟨r.val / 128, by omega⟩ 0 0
    rw [gathered_at, device_le ρ H] at this
    refine le_of_eq_of_le (relu_congr X W ?_ rfl) (this.2 ⟨r.val % 128, by omega⟩ k)
    show r.val = 128 * (r.val / 128 % 32) + r.val % 128
    omega
  · rw [gathered_at, device_le ρ H]
    exact ⟨(relu_nonneg X W 0 0).trans (h 0 0), fun r k => h _ k⟩

/-- The two scales. -/
theorem scale_up : (k0_pay97 (F := Ideal) (GB m ρ) : EReal) = Ideal.div top8 (peakAll (m := m) ρ) := by
  unfold k0_pay97 peakAll
  exact Ideal.scalar_divf_def _ _

theorem scale_down : (k0_pay96 (F := Ideal) (GB m ρ) : EReal) = Ideal.div (peakAll (m := m) ρ) top8 := by
  unfold k0_pay96 peakAll
  exact Ideal.scalar_divf_def _ _

/-- Device `c`'s result. -/
theorem result_at (H : Holds m X W) (c : Dev nD) (r : Fin 4096) (j : Fin 256) :
    (outB m ρ c (ix2 r j) : EReal)
      = there (relu X W r ⟨256 * c.val + j.val, by have := dev_lt c; omega⟩) (peakAll (m := m) ρ) := by
  have e : (outB m ρ c (ix2 r j) : EReal)
      = (CH m ρ (dv (r.val / 128)) c.val (ix3 (0 : Fin 1) (⟨r.val % 128, by omega⟩ : Fin 128) j) * k0_pay97 (F := Ideal) (GB m ρ))
        * k0_pay96 (F := Ideal) (GB m ρ) :=
    scaled (k0_pay96 (GB m ρ)) (k0_pay97 (GB m ρ)) (RV m ρ c (r.val / 128)) ⟨r.val % 128, by omega⟩ j
  have hr : 128 * (dv (r.val / 128)).val + r.val % 128 = r.val := by rw [dv_val]; omega
  rw [e, chunk_at ρ H _ (dev_lt c), scale_up, scale_down, relu_congr X W (r' := r) hr rfl]
  rfl

end Cert.Exchange

end
-- ==== Proof.Reference.lean ====
/-
# The reference's result

The reference forms the whole product with relu, takes the greatest absolute value, divides by a 448th of it, and
multiplies the sign of the quotient, its absolute value clipped at 448, and that 448th. This file reads each of these
at an entry.
-/
module

public import proofs.«01_k».proof.Proof.Gen.ReferenceIdeal.Value
public import proofs.«01_k».proof.Proof.Whole
public import Idealize.ShloMosaic.Lib.Claim

@[expose] public section

set_option maxRecDepth 16384

noncomputable section

namespace Cert.Reference

open Cert.ReferenceIdeal Cert.ReferenceIdeal.Gen

open Idealize.ShloMosaic
open Idealize.ShloMosaic.TcCoe
open Cert.Exchange (relu relu_nonneg back top8)

variable (X : FVec Ideal S4096x4096 .f32) (W : FVec Ideal S4096x8192 .f32)

/-- The product with relu. -/
def prod : FVec Ideal S4096x8192 .f32 :=
  maximumf (Host.dotGeneral dot_S4096x4096_S4096x8192_S4096x8192_1_0_0_1_n_n none X W)
    (broadcastInDim S4096x8192 ![] bcast_S_S4096x8192 (constant S_ .f32 0x00000000#32))
/-- The greatest absolute value of `y`. -/
def peakOf (y : FVec Ideal S4096x8192 .f32) : FVec Ideal S_ .f32 :=
  Host.reduce FloatOps.maximumf (Host.absf y) (constant S_ .f32 0xFF800000#32) reducesTo_S4096x8192_S_d0_1 h_S_
/-- A 448th of it. -/
def scaleOf (y : FVec Ideal S4096x8192 .f32) : FVec Ideal S_ .f32 := Host.divf (peakOf y) (constant S_ .f32 0x43E00000#32)
/-- The quotient. -/
def quotOf (y : FVec Ideal S4096x8192 .f32) : FVec Ideal S4096x8192 .f32 :=
  Host.divf y (broadcastInDim S4096x8192 ![] bcast_S_S4096x8192 (scaleOf y))

theorem prod_at (r : Fin 4096) (k : Fin 8192) : (prod X W (ix2 r k) : EReal) = relu X W r k := by
  pointwise [prod, relu]

/-- The greatest absolute value, as a number. -/
def top (y : FVec Ideal S4096x8192 .f32) : EReal := peakOf y (fun a => a.elim0)

theorem top_le (y : FVec Ideal S4096x8192 .f32) (b : EReal) :
    top y ≤ b ↔ ∀ (r : Fin 4096) (k : Fin 8192), max (y (ix2 r k) : EReal) (-(y (ix2 r k) : EReal)) ≤ b := by
  unfold top peakOf
  rw [Host.reduce_eq_fold, Finset.filter_true_of_mem fun i _ => funext fun a => a.elim0]
  refine (Finset.fold_max_le (α := S4096x8192.Idx) (β := EReal) (f := fun i => max (y i : EReal) (-(y i : EReal)))
    (s := Finset.univ) (b := Ideal.ofBits .f32 0xFF800000#32) b).trans ?_
  rw [Cert.Exchange.lowest]
  refine ⟨fun H r k => H.2 _ (Finset.mem_univ _), fun H => ⟨bot_le, fun i _ => ?_⟩⟩
  idx_vars i
  exact H _ _

theorem top_prod_le (b : EReal) : top (prod X W) ≤ b ↔ ∀ (r : Fin 4096) (k : Fin 8192), relu X W r k ≤ b := by
  refine (top_le _ b).trans (forall_congr' fun r => forall_congr' fun k => ?_)
  rw [prod_at, max_eq_left ((EReal.neg_le_zero.mpr (relu_nonneg X W r k)).trans (relu_nonneg X W r k))]

theorem scale_at (y : FVec Ideal S4096x8192 .f32) (j : S_.Idx) : (scaleOf y j : EReal) = Ideal.div (top y) top8 := by
  have h : j = fun a => a.elim0 := funext fun a => a.elim0
  rw [h]
  rfl

theorem quot_at (y : FVec Ideal S4096x8192 .f32) (r : Fin 4096) (k : Fin 8192) :
    (quotOf y (ix2 r k) : EReal) = Ideal.div (y (ix2 r k)) (Ideal.div (top y) top8) := by
  pointwise [quotOf]
  rw [scale_at]

variable (m : (ℓ : Loc nD τ sig) → Buf (Elt Ideal) ℓ) (c : Dev nD)

abbrev acts : FVec Ideal S4096x4096 .f32 := m ((c : Thread nD τ).loc main_arg0)
abbrev wts : FVec Ideal S4096x8192 .f32 := m ((c : Thread nD τ).loc main_arg1)

theorem signs : V m c main_v8 = Host.sign (quotOf (prod (acts m c) (wts m c))) := by
  entry_read
  rfl
theorem sizes : V m c main_v9 = Host.absf (quotOf (prod (acts m c) (wts m c))) := by
  entry_read
  rfl
theorem scales : V m c main_v10 = shapeCast S1x1 (scaleOf (prod (acts m c) (wts m c))) shapeCasts_S_S1x1 := by
  entry_read
  rfl

/-- The three inputs of the last step, each staged whole. -/
theorem staged_signs (t : Fin cfg0.N) : iblk m c 0 t = V m c main_v8 := by
  obtain rfl := fin_N0 t
  have hz : (fun a => win0_0.index t0_0 a * main_v8.ty.shape.size a) = fun _ => 0 := funext fun a => by fin_cases a <;> decide
  exact Memref.read_access_unit_zero (Elt Ideal) main_v8 hz (fun a => by rw [congrFun hz a]; simp) _
theorem staged_sizes (t : Fin cfg0.N) : iblk m c 1 t = V m c main_v9 := by
  obtain rfl := fin_N0 t
  have hz : (fun a => win0_1.index t0_0 a * main_v9.ty.shape.size a) = fun _ => 0 := funext fun a => by fin_cases a <;> decide
  exact Memref.read_access_unit_zero (Elt Ideal) main_v9 hz (fun a => by rw [congrFun hz a]; simp) _
theorem staged_scales (t : Fin cfg0.N) : iblk m c 2 t = V m c main_v10 := by
  obtain rfl := fin_N0 t
  have hz : (fun a => win0_2.index t0_0 a * main_v10.ty.shape.size a) = fun _ => 0 := funext fun a => by fin_cases a <;> decide
  exact Memref.read_access_unit_zero (Elt Ideal) main_v10 hz (fun a => by rw [congrFun hz a]; simp) _

/-- The last step's result. -/
def last : Vec Ideal S4096x8192 .f32 := k0_pay1 (F := Ideal) (V m c main_v9) (V m c main_v8) (V m c main_v10)

theorem zero_pair : (![0, 0] : Fin 2 → Nat) = fun _ => 0 := funext fun a => by fin_cases a <;> rfl

theorem written_back (t : Fin cfg0.N) :
    (dats m 0 c).flushed 3 t = ((cfg0.win 3).blk t).view.read (Elt Ideal) (last m c) := by
  rw [Cert.ReferenceIdeal.Value.flushed3, staged_signs, staged_sizes, staged_scales]
  obtain rfl := fin_N0 t
  unfold out0_3
  rw [View.canon_unit_zero zero_pair, View.ld_unit_zero zero_pair, View.ld_unit_zero zero_pair, View.ld_unit_zero zero_pair]
  show (cfg0.win 3).cut (grid0.coords t0_0) (last m c) = _
  have hz : (fun a => win0_3.index t0_0 a * main_v11.ty.shape.size a) = fun _ => 0 := funext fun a => by fin_cases a <;> decide
  exact (Memref.read_access_unit_zero (Elt Ideal) main_v11 hz (fun a => by rw [congrFun hz a]; simp) (last m c)).symm

theorem final_v11 : (dats m 0 c).arrAt 3 cfg0.N = last m c :=
  (dats m 0 c).arrAt_eq_of_cover 3 (last m c) (fun t _ => written_back m c t) fun i =>
    ⟨t0_0, rfl, by
      show i ∈ ((View.whole main_v11).slice (win0_3.rect t0_0)).set
      rw [View.set_slice_whole, Rect.mem_set_unit]
      intro a
      have h0 : (i 0 : Nat) < 4096 := (i 0).isLt
      have h1 : (i 1 : Nat) < 8192 := (i 1).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 4096 from by decide +kernel]; omega
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 8192 from by decide +kernel]; omega⟩

/-- The last step at an entry: the sign times the clipped size, times the scale. -/
theorem step_at (s z : Vec Ideal S4096x8192 .f32) (d : Vec Ideal S1x1 .f32) (r : Fin 4096) (k : Fin 8192) :
    (k0_pay1 (F := Ideal) z s d (ix2 r k) : EReal)
      = ((s (ix2 r k) : EReal) * min (z (ix2 r k) : EReal) top8) * d (ix2 (0 : Fin 1) (0 : Fin 1)) := by
  pointwise [k0_pay1]

/-- The reference's result at an entry. -/
theorem last_at (r : Fin 4096) (k : Fin 8192) :
    (last m c (ix2 r k) : EReal) = back (relu (acts m c) (wts m c) r k) (top (prod (acts m c) (wts m c))) := by
  unfold last
  rw [step_at, signs, sizes, scales]
  unfold back
  rw [← prod_at, ← quot_at]
  have hd : (shapeCast S1x1 (scaleOf (prod (acts m c) (wts m c))) shapeCasts_S_S1x1 (ix2 (0 : Fin 1) (0 : Fin 1)) : EReal)
      = Ideal.div (top (prod (acts m c) (wts m c))) top8 := by
    pointwise
    rw [scale_at]
  rw [hd]
  rfl

end Cert.Reference

end
-- ==== Proof.Final.lean ====
/-
# The result's array after the run

The launch writes the result back once, whole, so the array ends holding what the body left in its staging buffer.
-/
module

public import proofs.«01_k».proof.Proof.Launch
public import Idealize.ShloMosaic.Lib.Pipeline.Value

@[expose] public section

noncomputable section

namespace Cert.Exchange

open Cert.KernelIdeal Cert.KernelIdeal.Gen

open Idealize.ShloMosaic
open Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

theorem written_back (c : Dev nD) (t : Fin cfg0.N) :
    (dats m ρ 0 c).flushed (1 : Fin 2) t = ((cfg0.win (1 : Fin 2)).blk t).view.read (Elt F) (outB m ρ c) := by
  obtain rfl := one_point t
  show (cfg0.win (1 : Fin 2)).cut (grid0.coords t0_0) (outB m ρ c) = _
  have hz : (fun a => win0_1.index t0_0 a * main_v1.ty.shape.size a) = fun _ => 0 := funext fun a => by fin_cases a <;> decide
  exact (Memref.read_access_unit_zero (Elt F) main_v1 hz (fun a => by rw [congrFun hz a]; simp) (outB m ρ c)).symm

theorem finalA_y (c : Dev nD) : finalA m ρ c (1 : Fin 2) = outB m ρ c :=
  (dats m ρ 0 c).arrAt_eq_of_cover (1 : Fin 2) (outB m ρ c) (fun t _ => written_back m ρ c t) fun i =>
    ⟨t0_0, rfl, by
      show i ∈ ((View.whole main_v1).slice (win0_1.rect t0_0)).set
      rw [View.set_slice_whole, Rect.mem_set_unit]
      intro a
      have h0 : (i 0 : Nat) < 4096 := (i 0).isLt
      have h1 : (i 1 : Nat) < 256 := (i 1).isLt
      match a with
      | ⟨0, _⟩ => show win0_1.index t0_0 0 * win0_1.size 0 ≤ (i 0 : Nat) ∧ (i 0 : Nat) < win0_1.index t0_0 0 * win0_1.size 0 + win0_1.xsize (grid0.coords t0_0) 0
                  rw [show win0_1.index t0_0 0 * win0_1.size 0 = 0 from by decide +kernel, show win0_1.xsize (grid0.coords t0_0) 0 = 4096 from by decide +kernel]; omega
      | ⟨1, _⟩ => show win0_1.index t0_0 1 * win0_1.size 1 ≤ (i 1 : Nat) ∧ (i 1 : Nat) < win0_1.index t0_0 1 * win0_1.size 1 + win0_1.xsize (grid0.coords t0_0) 1
                  rw [show win0_1.index t0_0 1 * win0_1.size 1 = 0 from by decide +kernel, show win0_1.xsize (grid0.coords t0_0) 1 = 256 from by decide +kernel]; omega⟩

end Cert.Exchange

end
-- ==== Proof.Agree.lean ====
/-
# The kernel computes the reference

Both greatest entries bound the same product, so they are equal, and entry by entry the two ways of rescaling agree.
-/
module

public import proofs.«01_k».proof.Defs
public import proofs.«01_k».proof.Proof.Reference
public import proofs.«01_k».proof.Proof.Final
public import proofs.«01_k».proof.Proof.Frames

@[expose] public section

set_option maxRecDepth 16384

noncomputable section

namespace Cert.Agree

open Idealize.ShloMosaic
open Idealize.ShloMosaic.TcCoe
open Idealize.SL.Sem
open Cert.Exchange (Holds relu outB peakAll)

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The two greatest entries. -/
theorem peaks (H : Holds m (Cert.Reference.acts m' 0) (Cert.Reference.wts m' 0)) :
    peakAll (m := m) ρ = Cert.Reference.top (Cert.Reference.prod (Cert.Reference.acts m' 0) (Cert.Reference.wts m' 0)) :=
  eq_of_forall_ge_iff fun b => (Cert.Exchange.peakAll_le ρ H b).trans (Cert.Reference.top_prod_le _ _ b).symm

/-- One entry of device `c`'s result, at its column of the reference's. -/
theorem entry_of (H : Holds m (Cert.Reference.acts m' 0) (Cert.Reference.wts m' 0)) (c : Dev Cert.KernelIdeal.nD) (r : Fin 4096) (j : Fin 256) :
    (outB m ρ c (ix2 r j) : EReal)
      = Cert.Reference.last m' 0 (ix2 r (⟨256 * c.val + j.val, by have := Cert.Exchange.dev_lt c; omega⟩ : Fin 8192)) := by
  have hk := (Cert.Exchange.peakAll_le ρ H (peakAll (m := m) ρ)).mp le_rfl r ⟨256 * c.val + j.val, by have := Cert.Exchange.dev_lt c; omega⟩
  rw [Cert.Exchange.result_at ρ H c r j, Cert.Reference.last_at, ← peaks m ρ m' H]
  exact Cert.Exchange.there_eq_back (Cert.Exchange.relu_nonneg _ _ _ _) hk

/-- Device `c`'s result is its 256 columns of the reference's. -/
theorem part_of (H : Holds m (Cert.Reference.acts m' 0) (Cert.Reference.wts m' 0)) (c : Dev Cert.KernelIdeal.nD) :
    outB m ρ c = Layout.block ⟨2, ![4096, 256]⟩ ⟨2, ![4096, 8192]⟩ 1 32 c (Cert.Reference.last m' 0) := by
  funext i
  have hi : i = ix2 (i 0 : Fin 4096) (i 1 : Fin 256) := funext fun a => by
    match a with
    | ⟨0, _⟩ => rfl
    | ⟨1, _⟩ => rfl
  refine (congrArg (outB m ρ c) hi).trans ((entry_of m ρ m' H c (i 0) (i 1)).trans ?_)
  rw [Layout.block_apply]
  refine congrArg (Cert.Reference.last m' 0) (funext fun a => Fin.ext ?_)
  match a with
  | ⟨0, _⟩ => rw [Layout.Tiles.idx_val]; rfl
  | ⟨1, _⟩ => rw [Layout.Tiles.idx_val]; show 256 * c.val + (i 1).val = c.val * 256 + (i 1).val; omega

theorem algebraic : Cert.algebraic_KernelIdeal_ReferenceIdeal := by
  intro m ρ m' ρ' _ hagree
  refine ⟨Cert.Reference.last m' 0, ?_, ?_⟩
  · refine (θ_run Cert.KernelIdeal.defs _ _).mono (fun r h c => ⟨?_, (Cert.Exchange.final_frame m ρ h).1 c⟩)
      (Cert.Exchange.run_main (F := Ideal) m ρ)
    exact (((h.1 c).1 (1 : Fin 2)).trans (Cert.Exchange.finalA_y m ρ c)).trans (part_of m ρ m' hagree c)
  · refine (θ_run Cert.ReferenceIdeal.defs _ _).mono (fun r h => ⟨((h 0).1).trans (Cert.Reference.final_v11 m' 0), (h 0).2⟩)
      (Cert.ReferenceIdeal.Value.run_blocks (F := Ideal) m' ρ')

end Cert.Agree

end
-- ==== Proof.lean ====
/- The proof of the certificate's claims: the frames of the kernel, of the kernel over the extended reals and of
   the reference, and that the kernel computes the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Frames
public import proofs.«01_k».proof.Proof.Agree

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.frame_kernel, Cert.Exchange.frame_ideal, fun m ρ _ => Cert.ReferenceIdeal.Gen.frame m ρ, trivial,
  Cert.Agree.algebraic⟩

end Cert.Proof

end
